-- ==== Defs.lean ====
def Pre_Kernel [hPre_perm_in_range : Cert.Pre_perm_in_range.Facts] (m : (ℓ : Loc Cert.Kernel.nD Cert.Kernel.τ Cert.Kernel.sig) → Buf (Elt Bits) ℓ) : Prop :=
  ∀ c : Dev Cert.Kernel.nD,
    (Cert.Pre_perm_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_in_range : Cert.Pre_perm_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_in_range [hPre_perm_in_range : Cert.Pre_perm_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_in_range : Cert.Pre_perm_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_in_range [hReferenceIdeal : Cert.ReferenceIdeal.Facts] [hPre_perm_in_range : Cert.Pre_perm_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_perm_in_range : Cert.Pre_perm_in_range.Facts),
    quiescent_Kernel (hKernel := hKernel) (hPre_perm_in_range := hPre_perm_in_range)
    ∧ quiescent_KernelIdeal (hKernelIdeal := hKernelIdeal) (hPre_perm_in_range := hPre_perm_in_range)
    ∧ quiescent_ReferenceIdeal (hReferenceIdeal := hReferenceIdeal)
    ∧ quiescent_ReferenceIdeal_pre_perm_in_range (hReferenceIdeal := hReferenceIdeal) (hPre_perm_in_range := hPre_perm_in_range)
    ∧ preserves_Kernel_KernelIdeal
    ∧ algebraic_KernelIdeal_ReferenceIdeal (hKernelIdeal := hKernelIdeal) (hReferenceIdeal := hReferenceIdeal) (hPre_perm_in_range := hPre_perm_in_range)
-- ==== Pre_perm_in_range.lean ====
abbrev S2048x4096 : Shape := ⟨2, ![2048, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S2048x4096 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S2048x4096 : Shape := ⟨2, ![2048, 4096]⟩
abbrev S4096 : Shape := ⟨1, ![4096]⟩
abbrev S4x4096 : Shape := ⟨2, ![4, 4096]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 8
  | _ => 0

abbrev bufTy : (tb : Table) → Fin (nBuf tb) → BufTy
  | .hbm, ⟨0, _⟩ => ⟨S2048x4096, .f32⟩
  | .hbm, ⟨1, _⟩ => ⟨S4096, .i32⟩
  | .hbm, ⟨2, _⟩ => ⟨S2048x4096, .f32⟩
  | .local .scVector .vmem, ⟨0, _⟩ => ⟨S4096, .i32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | .local .scVector .vmem, ⟨4, _⟩ => ⟨S4x4096, .f32⟩
  | .local .scVector .vmem, ⟨5, _⟩ => ⟨S4x4096, .f32⟩
  | .local .scVector .vmem, ⟨6, _⟩ => ⟨S4x4096, .f32⟩
  | .local .scVector .vmem, ⟨7, _⟩ => ⟨S4x4096, .f32⟩
  | _, _ => ⟨S2048x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.subi c2048_i32 v2
  let c64_i32_0 : BitVec 32 := 64#32
  let v4 : BitVec 32 := Scalar.subi v3 c64_i32_0
  let v5 : BitVec 32 := Scalar.addi v4 c0_i32
  let c0_i32_1 : BitVec 32 := 0#32
  ![v5.toNat, 0]
@[reducible] def k0_t1_loop : Scf.Loop 32 :=
  let c0_i32_12 : BitVec 32 := 0#32
  let c256_i32 : BitVec 32 := 256#32
  let v20 : BitVec 32 := Scalar.addi c0_i32_12 c256_i32
  let c1_i32 : BitVec 32 := 1#32
  ⟨c0_i32_12, v20, c1_i32⟩
def k0_off2 (k0_t1 : Fin k0_t1_loop.trips) : Fin 1 → Nat :=
  let c0_i32_304 : BitVec 32 := 0#32
  let c0_i32_12 : BitVec 32 := 0#32
  let c1_i32 : BitVec 32 := 1#32
  let arg21 : BitVec 32 := Scf.iv c0_i32_12 c1_i32 k0_t1
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk1 (v281 : IVec S16 32) (v282 : IVec S16 32) : Prop :=
  (∀ a x, ((![v282, v281] : Fin 2 → IVec S16 32) a x).toNat < S4x4096.size a)
theorem k0_idx1_inb : ∀ (v281 : IVec S16 32) (v282 : IVec S16 32) (k0_hw1 : k0_chk1 v281 v282), ∀ a x, ((![v282, v281] : Fin 2 → IVec S16 32) a x).toNat < S4x4096.size a := fun v281 v282 k0_hw1 => k0_hw1
def k0_off3 (k0_t1 : Fin k0_t1_loop.trips) : Fin 2 → Nat :=
  let c3_i32 : BitVec 32 := 3#32
  let v284 : Index := Scalar.indexCast c3_i32
  let c0_i32_304 : BitVec 32 := 0#32
  let c0_i32_12 : BitVec 32 := 0#32
  let c1_i32 : BitVec 32 := 1#32
  let arg21 : BitVec 32 := Scf.iv c0_i32_12 c1_i32 k0_t1
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk2 (v281 : IVec S16 32) (v287 : IVec S16 32) : Prop :=
  (∀ a x, ((![v287, v281] : Fin 2 → IVec S16 32) a x).toNat < S4x4096.size a)
theorem k0_idx2_inb : ∀ (v281 : IVec S16 32) (v287 : IVec S16 32) (k0_hw2 : k0_chk2 v281 v287), ∀ a x, ((![v287, v281] : Fin 2 → IVec S16 32) a x).toNat < S4x4096.size a := fun v281 v287 k0_hw2 => k0_hw2
def k0_off4 (k0_t1 : Fin k0_t1_loop.trips) : Fin 2 → Nat :=
  let c2_i32_308 : BitVec 32 := 2#32
  let v289 : Index := Scalar.indexCast c2_i32_308
  let c0_i32_304 : BitVec 32 := 0#32
  let c0_i32_12 : BitVec 32 := 0#32
  let c1_i32 : BitVec 32 := 1#32
  let arg21 : BitVec 32 := Scf.iv c0_i32_12 c1_i32 k0_t1
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk3 (v281 : IVec S16 32) (v292 : IVec S16 32) : Prop :=
  (∀ a x, ((![v292, v281] : Fin 2 → IVec S16 32) a x).toNat < S4x4096.size a)
theorem k0_idx3_inb : ∀ (v281 : IVec S16 32) (v292 : IVec S16 32) (k0_hw3 : k0_chk3 v281 v292), ∀ a x, ((![v292, v281] : Fin 2 → IVec S16 32) a x).toNat < S4x4096.size a := fun v281 v292 k0_hw3 => k0_hw3
def k0_off5 (k0_t1 : Fin k0_t1_loop.trips) : Fin 2 → Nat :=
  let c1_i32_310 : BitVec 32 := 1#32
  let v294 : Index := Scalar.indexCast c1_i32_310
  let c0_i32_304 : BitVec 32 := 0#32
  let c0_i32_12 : BitVec 32 := 0#32
  let c1_i32 : BitVec 32 := 1#32
  let arg21 : BitVec 32 := Scf.iv c0_i32_12 c1_i32 k0_t1
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk4 (v281 : IVec S16 32) (v297 : IVec S16 32) : Prop :=
  (∀ a x, ((![v297, v281] : Fin 2 → IVec S16 32) a x).toNat < S4x4096.size a)
theorem k0_idx4_inb : ∀ (v281 : IVec S16 32) (v297 : IVec S16 32) (k0_hw4 : k0_chk4 v281 v297), ∀ a x, ((![v297, v281] : Fin 2 → IVec S16 32) a x).toNat < S4x4096.size a := fun v281 v297 k0_hw4 => k0_hw4
def k0_off6 (k0_t1 : Fin k0_t1_loop.trips) : Fin 2 → Nat :=
  let c0_i32_312 : BitVec 32 := 0#32
  let v299 : Index := Scalar.indexCast c0_i32_312
  let c0_i32_304 : BitVec 32 := 0#32
  let c0_i32_12 : BitVec 32 := 0#32
  let c1_i32 : BitVec 32 := 1#32
  let arg21 : BitVec 32 := Scf.iv c0_i32_12 c1_i32 k0_t1
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
def k0_off7 (i : grid0.Coords) (c0_i32_14 : BitVec 32) : Fin 2 → Nat :=
  let c2048_i32_15 : BitVec 32 := 2048#32
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.subi c2048_i32 v2
  let c64_i32_0 : BitVec 32 := 64#32
  let v4 : BitVec 32 := Scalar.subi v3 c64_i32_0
  let v21 : BitVec 32 := Scalar.addi v4 c0_i32_14
  let v22 : BitVec 32 := Scalar.subi c2048_i32_15 v21
  let c4_i32_16 : BitVec 32 := 4#32
  let v23 : BitVec 32 := Scalar.subi v22 c4_i32_16
  let c0_i32_17 : BitVec 32 := 0#32
  ![v23.toNat, 0]
@[reducible] def k0_t2_loop : Scf.Loop 32 :=
  let c0_i32_24 : BitVec 32 := 0#32
  let c256_i32_25 : BitVec 32 := 256#32
  let v32 : BitVec 32 := Scalar.addi c0_i32_24 c256_i32_25
  let c1_i32_26 : BitVec 32 := 1#32
  ⟨c0_i32_24, v32, c1_i32_26⟩
def k0_off8 (k0_t2 : Fin k0_t2_loop.trips) : Fin 1 → Nat :=
  let c0_i32_304 : BitVec 32 := 0#32
  let c0_i32_24 : BitVec 32 := 0#32
  let c1_i32_26 : BitVec 32 := 1#32
  let arg21 : BitVec 32 := Scf.iv c0_i32_24 c1_i32_26 k0_t2
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk5 (v281 : IVec S16 32) (v282 : IVec S16 32) : Prop :=
  (∀ a x, ((![v282, v281] : Fin 2 → IVec S16 32) a x).toNat < S4x4096.size a)
theorem k0_idx5_inb : ∀ (v281 : IVec S16 32) (v282 : IVec S16 32) (k0_hw5 : k0_chk5 v281 v282), ∀ a x, ((![v282, v281] : Fin 2 → IVec S16 32) a x).toNat < S4x4096.size a := fun v281 v282 k0_hw5 => k0_hw5
def k0_off9 (k0_t2 : Fin k0_t2_loop.trips) : Fin 2 → Nat :=
  let c3_i32 : BitVec 32 := 3#32
  let v284 : Index := Scalar.indexCast c3_i32
  let c0_i32_304 : BitVec 32 := 0#32
  let c0_i32_24 : BitVec 32 := 0#32
  let c1_i32_26 : BitVec 32 := 1#32
  let arg21 : BitVec 32 := Scf.iv c0_i32_24 c1_i32_26 k0_t2
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk6 (v281 : IVec S16 32) (v287 : IVec S16 32) : Prop :=
  (∀ a x, ((![v287, v281] : Fin 2 → IVec S16 32) a x).toNat < S4x4096.size a)
theorem k0_idx6_inb : ∀ (v281 : IVec S16 32) (v287 : IVec S16 32) (k0_hw6 : k0_chk6 v281 v287), ∀ a x, ((![v287, v281] : Fin 2 → IVec S16 32) a x).toNat < S4x4096.size a := fun v281 v287 k0_hw6 => k0_hw6
def k0_off10 (k0_t2 : Fin k0_t2_loop.trips) : Fin 2 → Nat :=
  let c2_i32_308 : BitVec 32 := 2#32
  let v289 : Index := Scalar.indexCast c2_i32_308
  let c0_i32_304 : BitVec 32 := 0#32
  let c0_i32_24 : BitVec 32 := 0#32
  let c1_i32_26 : BitVec 32 := 1#32
  let arg21 : BitVec 32 := Scf.iv c0_i32_24 c1_i32_26 k0_t2
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk7 (v281 : IVec S16 32) (v292 : IVec S16 32) : Prop :=
  (∀ a x, ((![v292, v281] : Fin 2 → IVec S16 32) a x).toNat < S4x4096.size a)
theorem k0_idx7_inb : ∀ (v281 : IVec S16 32) (v292 : IVec S16 32) (k0_hw7 : k0_chk7 v281 v292), ∀ a x, ((![v292, v281] : Fin 2 → IVec S16 32) a x).toNat < S4x4096.size a := fun v281 v292 k0_hw7 => k0_hw7
def k0_off11 (k0_t2 : Fin k0_t2_loop.trips) : Fin 2 → Nat :=
  let c1_i32_310 : BitVec 32 := 1#32
  let v294 : Index := Scalar.indexCast c1_i32_310
  let c0_i32_304 : BitVec 32 := 0#32
  let c0_i32_24 : BitVec 32 := 0#32
  let c1_i32_26 : BitVec 32 := 1#32
  let arg21 : BitVec 32 := Scf.iv c0_i32_24 c1_i32_26 k0_t2
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk8 (v281 : IVec S16 32) (v297 : IVec S16 32) : Prop :=
  (∀ a x, ((![v297, v281] : Fin 2 → IVec S16 32) a x).toNat < S4x4096.size a)
theorem k0_idx8_inb : ∀ (v281 : IVec S16 32) (v297 : IVec S16 32) (k0_hw8 : k0_chk8 v281 v297), ∀ a x, ((![v297, v281] : Fin 2 → IVec S16 32) a x).toNat < S4x4096.size a := fun v281 v297 k0_hw8 => k0_hw8
def k0_off12 (k0_t2 : Fin k0_t2_loop.trips) : Fin 2 → Nat :=
  let c0_i32_312 : BitVec 32 := 0#32
  let v299 : Index := Scalar.indexCast c0_i32_312
  let c0_i32_304 : BitVec 32 := 0#32
  let c0_i32_24 : BitVec 32 := 0#32
  let c1_i32_26 : BitVec 32 := 1#32
  let arg21 : BitVec 32 := Scf.iv c0_i32_24 c1_i32_26 k0_t2
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t3_loop : Scf.Loop 32 :=
  let c0_i32_38 : BitVec 32 := 0#32
  let c256_i32_39 : BitVec 32 := 256#32
  let v44 : BitVec 32 := Scalar.addi c0_i32_38 c256_i32_39
  let c1_i32_40 : BitVec 32 := 1#32
  ⟨c0_i32_38, v44, c1_i32_40⟩
def k0_off13 (k0_t3 : Fin k0_t3_loop.trips) : Fin 1 → Nat :=
  let c0_i32_304 : BitVec 32 := 0#32
  let c0_i32_38 : BitVec 32 := 0#32
  let c1_i32_40 : BitVec 32 := 1#32
  let arg21 : BitVec 32 := Scf.iv c0_i32_38 c1_i32_40 k0_t3
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk9 (v281 : IVec S16 32) (v282 : IVec S16 32) : Prop :=
  (∀ a x, ((![v282, v281] : Fin 2 → IVec S16 32) a x).toNat < S4x4096.size a)
theorem k0_idx9_inb : ∀ (v281 : IVec S16 32) (v282 : IVec S16 32) (k0_hw9 : k0_chk9 v281 v282), ∀ a x, ((![v282, v281] : Fin 2 → IVec S16 32) a x).toNat < S4x4096.size a := fun v281 v282 k0_hw9 => k0_hw9
def k0_off14 (k0_t3 : Fin k0_t3_loop.trips) : Fin 2 → Nat :=
  let c3_i32 : BitVec 32 := 3#32
  let v284 : Index := Scalar.indexCast c3_i32
  let c0_i32_304 : BitVec 32 := 0#32
  let c0_i32_38 : BitVec 32 := 0#32
  let c1_i32_40 : BitVec 32 := 1#32
  let arg21 : BitVec 32 := Scf.iv c0_i32_38 c1_i32_40 k0_t3
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk10 (v281 : IVec S16 32) (v287 : IVec S16 32) : Prop :=
  (∀ a x, ((![v287, v281] : Fin 2 → IVec S16 32) a x).toNat < S4x4096.size a)
theorem k0_idx10_inb : ∀ (v281 : IVec S16 32) (v287 : IVec S16 32) (k0_hw10 : k0_chk10 v281 v287), ∀ a x, ((![v287, v281] : Fin 2 → IVec S16 32) a x).toNat < S4x4096.size a := fun v281 v287 k0_hw10 => k0_hw10
def k0_off15 (k0_t3 : Fin k0_t3_loop.trips) : Fin 2 → Nat :=
  let c2_i32_308 : BitVec 32 := 2#32
  let v289 : Index := Scalar.indexCast c2_i32_308
  let c0_i32_304 : BitVec 32 := 0#32
  let c0_i32_38 : BitVec 32 := 0#32
  let c1_i32_40 : BitVec 32 := 1#32
  let arg21 : BitVec 32 := Scf.iv c0_i32_38 c1_i32_40 k0_t3
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk11 (v281 : IVec S16 32) (v292 : IVec S16 32) : Prop :=
  (∀ a x, ((![v292, v281] : Fin 2 → IVec S16 32) a x).toNat < S4x4096.size a)
theorem k0_idx11_inb : ∀ (v281 : IVec S16 32) (v292 : IVec S16 32) (k0_hw11 : k0_chk11 v281 v292), ∀ a x, ((![v292, v281] : Fin 2 → IVec S16 32) a x).toNat < S4x4096.size a := fun v281 v292 k0_hw11 => k0_hw11
def k0_off16 (k0_t3 : Fin k0_t3_loop.trips) : Fin 2 → Nat :=
  let c1_i32_310 : BitVec 32 := 1#32
  let v294 : Index := Scalar.indexCast c1_i32_310
  let c0_i32_304 : BitVec 32 := 0#32
  let c0_i32_38 : BitVec 32 := 0#32
  let c1_i32_40 : BitVec 32 := 1#32
  let arg21 : BitVec 32 := Scf.iv c0_i32_38 c1_i32_40 k0_t3
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk12 (v281 : IVec S16 32) (v297 : IVec S16 32) : Prop :=
  (∀ a x, ((![v297, v281] : Fin 2 → IVec S16 32) a x).toNat < S4x4096.size a)
theorem k0_idx12_inb : ∀ (v281 : IVec S16 32) (v297 : IVec S16 32) (k0_hw12 : k0_chk12 v281 v297), ∀ a x, ((![v297, v281] : Fin 2 → IVec S16 32) a x).toNat < S4x4096.size a := fun v281 v297 k0_hw12 => k0_hw12
def k0_off17 (k0_t3 : Fin k0_t3_loop.trips) : Fin 2 → Nat :=
  let c0_i32_312 : BitVec 32 := 0#32
  let v299 : Index := Scalar.indexCast c0_i32_312
  let c0_i32_304 : BitVec 32 := 0#32
  let c0_i32_38 : BitVec 32 := 0#32
  let c1_i32_40 : BitVec 32 := 1#32
  let arg21 : BitVec 32 := Scf.iv c0_i32_38 c1_i32_40 k0_t3
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t4_loop : Scf.Loop 32 :=
  let c0_i32_57 : BitVec 32 := 0#32
  let c256_i32_58 : BitVec 32 := 256#32
  let v61 : BitVec 32 := Scalar.addi c0_i32_57 c256_i32_58
  let c1_i32_59 : BitVec 32 := 1#32
  ⟨c0_i32_57, v61, c1_i32_59⟩
def k0_off18 (k0_t4 : Fin k0_t4_loop.trips) : Fin 1 → Nat :=
  let c0_i32_304 : BitVec 32 := 0#32
  let c0_i32_57 : BitVec 32 := 0#32
  let c1_i32_59 : BitVec 32 := 1#32
  let arg21 : BitVec 32 := Scf.iv c0_i32_57 c1_i32_59 k0_t4
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk13 (v281 : IVec S16 32) (v282 : IVec S16 32) : Prop :=
  (∀ a x, ((![v282, v281] : Fin 2 → IVec S16 32) a x).toNat < S4x4096.size a)
theorem k0_idx13_inb : ∀ (v281 : IVec S16 32) (v282 : IVec S16 32) (k0_hw13 : k0_chk13 v281 v282), ∀ a x, ((![v282, v281] : Fin 2 → IVec S16 32) a x).toNat < S4x4096.size a := fun v281 v282 k0_hw13 => k0_hw13
def k0_off19 (k0_t4 : Fin k0_t4_loop.trips) : Fin 2 → Nat :=
  let c3_i32 : BitVec 32 := 3#32
  let v284 : Index := Scalar.indexCast c3_i32
  let c0_i32_304 : BitVec 32 := 0#32
  let c0_i32_57 : BitVec 32 := 0#32
  let c1_i32_59 : BitVec 32 := 1#32
  let arg21 : BitVec 32 := Scf.iv c0_i32_57 c1_i32_59 k0_t4
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk14 (v281 : IVec S16 32) (v287 : IVec S16 32) : Prop :=
  (∀ a x, ((![v287, v281] : Fin 2 → IVec S16 32) a x).toNat < S4x4096.size a)
theorem k0_idx14_inb : ∀ (v281 : IVec S16 32) (v287 : IVec S16 32) (k0_hw14 : k0_chk14 v281 v287), ∀ a x, ((![v287, v281] : Fin 2 → IVec S16 32) a x).toNat < S4x4096.size a := fun v281 v287 k0_hw14 => k0_hw14
def k0_off20 (k0_t4 : Fin k0_t4_loop.trips) : Fin 2 → Nat :=
  let c2_i32_308 : BitVec 32 := 2#32
  let v289 : Index := Scalar.indexCast c2_i32_308
  let c0_i32_304 : BitVec 32 := 0#32
  let c0_i32_57 : BitVec 32 := 0#32
  let c1_i32_59 : BitVec 32 := 1#32
  let arg21 : BitVec 32 := Scf.iv c0_i32_57 c1_i32_59 k0_t4
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk15 (v281 : IVec S16 32) (v292 : IVec S16 32) : Prop :=
  (∀ a x, ((![v292, v281] : Fin 2 → IVec S16 32) a x).toNat < S4x4096.size a)
theorem k0_idx15_inb : ∀ (v281 : IVec S16 32) (v292 : IVec S16 32) (k0_hw15 : k0_chk15 v281 v292), ∀ a x, ((![v292, v281] : Fin 2 → IVec S16 32) a x).toNat < S4x4096.size a := fun v281 v292 k0_hw15 => k0_hw15
def k0_off21 (k0_t4 : Fin k0_t4_loop.trips) : Fin 2 → Nat :=
  let c1_i32_310 : BitVec 32 := 1#32
  let v294 : Index := Scalar.indexCast c1_i32_310
  let c0_i32_304 : BitVec 32 := 0#32
  let c0_i32_57 : BitVec 32 := 0#32
  let c1_i32_59 : BitVec 32 := 1#32
  let arg21 : BitVec 32 := Scf.iv c0_i32_57 c1_i32_59 k0_t4
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk16 (v281 : IVec S16 32) (v297 : IVec S16 32) : Prop :=
  (∀ a x, ((![v297, v281] : Fin 2 → IVec S16 32) a x).toNat < S4x4096.size a)
theorem k0_idx16_inb : ∀ (v281 : IVec S16 32) (v297 : IVec S16 32) (k0_hw16 : k0_chk16 v281 v297), ∀ a x, ((![v297, v281] : Fin 2 → IVec S16 32) a x).toNat < S4x4096.size a := fun v281 v297 k0_hw16 => k0_hw16
def k0_off22 (k0_t4 : Fin k0_t4_loop.trips) : Fin 2 → Nat :=
  let c0_i32_312 : BitVec 32 := 0#32
  let v299 : Index := Scalar.indexCast c0_i32_312
  let c0_i32_304 : BitVec 32 := 0#32
  let c0_i32_57 : BitVec 32 := 0#32
  let c1_i32_59 : BitVec 32 := 1#32
  let arg21 : BitVec 32 := Scf.iv c0_i32_57 c1_i32_59 k0_t4
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t5_loop : Scf.Loop 32 :=
  let c0_i32_76 : BitVec 32 := 0#32
  let c256_i32_77 : BitVec 32 := 256#32
  let v78 : BitVec 32 := Scalar.addi c0_i32_76 c256_i32_77
  let c1_i32_78 : BitVec 32 := 1#32
  ⟨c0_i32_76, v78, c1_i32_78⟩
def k0_off23 (k0_t5 : Fin k0_t5_loop.trips) : Fin 1 → Nat :=
  let c0_i32_304 : BitVec 32 := 0#32
  let c0_i32_76 : BitVec 32 := 0#32
  let c1_i32_78 : BitVec 32 := 1#32
  let arg21 : BitVec 32 := Scf.iv c0_i32_76 c1_i32_78 k0_t5
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk17 (v281 : IVec S16 32) (v282 : IVec S16 32) : Prop :=
  (∀ a x, ((![v282, v281] : Fin 2 → IVec S16 32) a x).toNat < S4x4096.size a)
theorem k0_idx17_inb : ∀ (v281 : IVec S16 32) (v282 : IVec S16 32) (k0_hw17 : k0_chk17 v281 v282), ∀ a x, ((![v282, v281] : Fin 2 → IVec S16 32) a x).toNat < S4x4096.size a := fun v281 v282 k0_hw17 => k0_hw17
def k0_off24 (k0_t5 : Fin k0_t5_loop.trips) : Fin 2 → Nat :=
  let c3_i32 : BitVec 32 := 3#32
  let v284 : Index := Scalar.indexCast c3_i32
  let c0_i32_304 : BitVec 32 := 0#32
  let c0_i32_76 : BitVec 32 := 0#32
  let c1_i32_78 : BitVec 32 := 1#32
  let arg21 : BitVec 32 := Scf.iv c0_i32_76 c1_i32_78 k0_t5
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk18 (v281 : IVec S16 32) (v287 : IVec S16 32) : Prop :=
  (∀ a x, ((![v287, v281] : Fin 2 → IVec S16 32) a x).toNat < S4x4096.size a)
theorem k0_idx18_inb : ∀ (v281 : IVec S16 32) (v287 : IVec S16 32) (k0_hw18 : k0_chk18 v281 v287), ∀ a x, ((![v287, v281] : Fin 2 → IVec S16 32) a x).toNat < S4x4096.size a := fun v281 v287 k0_hw18 => k0_hw18
def k0_off25 (k0_t5 : Fin k0_t5_loop.trips) : Fin 2 → Nat :=
  let c2_i32_308 : BitVec 32 := 2#32
  let v289 : Index := Scalar.indexCast c2_i32_308
  let c0_i32_304 : BitVec 32 := 0#32
  let c0_i32_76 : BitVec 32 := 0#32
  let c1_i32_78 : BitVec 32 := 1#32
  let arg21 : BitVec 32 := Scf.iv c0_i32_76 c1_i32_78 k0_t5
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk19 (v281 : IVec S16 32) (v292 : IVec S16 32) : Prop :=
  (∀ a x, ((![v292, v281] : Fin 2 → IVec S16 32) a x).toNat < S4x4096.size a)
theorem k0_idx19_inb : ∀ (v281 : IVec S16 32) (v292 : IVec S16 32) (k0_hw19 : k0_chk19 v281 v292), ∀ a x, ((![v292, v281] : Fin 2 → IVec S16 32) a x).toNat < S4x4096.size a := fun v281 v292 k0_hw19 => k0_hw19
def k0_off26 (k0_t5 : Fin k0_t5_loop.trips) : Fin 2 → Nat :=
  let c1_i32_310 : BitVec 32 := 1#32
  let v294 : Index := Scalar.indexCast c1_i32_310
  let c0_i32_304 : BitVec 32 := 0#32
  let c0_i32_76 : BitVec 32 := 0#32
  let c1_i32_78 : BitVec 32 := 1#32
  let arg21 : BitVec 32 := Scf.iv c0_i32_76 c1_i32_78 k0_t5
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk20 (v281 : IVec S16 32) (v297 : IVec S16 32) : Prop :=
  (∀ a x, ((![v297, v281] : Fin 2 → IVec S16 32) a x).toNat < S4x4096.size a)
theorem k0_idx20_inb : ∀ (v281 : IVec S16 32) (v297 : IVec S16 32) (k0_hw20 : k0_chk20 v281 v297), ∀ a x, ((![v297, v281] : Fin 2 → IVec S16 32) a x).toNat < S4x4096.size a := fun v281 v297 k0_hw20 => k0_hw20
def k0_off27 (k0_t5 : Fin k0_t5_loop.trips) : Fin 2 → Nat :=
  let c0_i32_312 : BitVec 32 := 0#32
  let v299 : Index := Scalar.indexCast c0_i32_312
  let c0_i32_304 : BitVec 32 := 0#32
  let c0_i32_76 : BitVec 32 := 0#32
  let c1_i32_78 : BitVec 32 := 1#32
  let arg21 : BitVec 32 := Scf.iv c0_i32_76 c1_i32_78 k0_t5
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t6_loop : Scf.Loop 32 :=
  let c0_i32_95 : BitVec 32 := 0#32
  let c256_i32_96 : BitVec 32 := 256#32
  let v95 : BitVec 32 := Scalar.addi c0_i32_95 c256_i32_96
  let c1_i32_97 : BitVec 32 := 1#32
  ⟨c0_i32_95, v95, c1_i32_97⟩
def k0_off28 (k0_t6 : Fin k0_t6_loop.trips) : Fin 1 → Nat :=
  let c0_i32_304 : BitVec 32 := 0#32
  let c0_i32_95 : BitVec 32 := 0#32
  let c1_i32_97 : BitVec 32 := 1#32
  let arg21 : BitVec 32 := Scf.iv c0_i32_95 c1_i32_97 k0_t6
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk21 (v281 : IVec S16 32) (v282 : IVec S16 32) : Prop :=
  (∀ a x, ((![v282, v281] : Fin 2 → IVec S16 32) a x).toNat < S4x4096.size a)
theorem k0_idx21_inb : ∀ (v281 : IVec S16 32) (v282 : IVec S16 32) (k0_hw21 : k0_chk21 v281 v282), ∀ a x, ((![v282, v281] : Fin 2 → IVec S16 32) a x).toNat < S4x4096.size a := fun v281 v282 k0_hw21 => k0_hw21
def k0_off29 (k0_t6 : Fin k0_t6_loop.trips) : Fin 2 → Nat :=
  let c3_i32 : BitVec 32 := 3#32
  let v284 : Index := Scalar.indexCast c3_i32
  let c0_i32_304 : BitVec 32 := 0#32
  let c0_i32_95 : BitVec 32 := 0#32
  let c1_i32_97 : BitVec 32 := 1#32
  let arg21 : BitVec 32 := Scf.iv c0_i32_95 c1_i32_97 k0_t6
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk22 (v281 : IVec S16 32) (v287 : IVec S16 32) : Prop :=
  (∀ a x, ((![v287, v281] : Fin 2 → IVec S16 32) a x).toNat < S4x4096.size a)
theorem k0_idx22_inb : ∀ (v281 : IVec S16 32) (v287 : IVec S16 32) (k0_hw22 : k0_chk22 v281 v287), ∀ a x, ((![v287, v281] : Fin 2 → IVec S16 32) a x).toNat < S4x4096.size a := fun v281 v287 k0_hw22 => k0_hw22
def k0_off30 (k0_t6 : Fin k0_t6_loop.trips) : Fin 2 → Nat :=
  let c2_i32_308 : BitVec 32 := 2#32
  let v289 : Index := Scalar.indexCast c2_i32_308
  let c0_i32_304 : BitVec 32 := 0#32
  let c0_i32_95 : BitVec 32 := 0#32
  let c1_i32_97 : BitVec 32 := 1#32
  let arg21 : BitVec 32 := Scf.iv c0_i32_95 c1_i32_97 k0_t6
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk23 (v281 : IVec S16 32) (v292 : IVec S16 32) : Prop :=
  (∀ a x, ((![v292, v281] : Fin 2 → IVec S16 32) a x).toNat < S4x4096.size a)
theorem k0_idx23_inb : ∀ (v281 : IVec S16 32) (v292 : IVec S16 32) (k0_hw23 : k0_chk23 v281 v292), ∀ a x, ((![v292, v281] : Fin 2 → IVec S16 32) a x).toNat < S4x4096.size a := fun v281 v292 k0_hw23 => k0_hw23
def k0_off31 (k0_t6 : Fin k0_t6_loop.trips) : Fin 2 → Nat :=
  let c1_i32_310 : BitVec 32 := 1#32
  let v294 : Index := Scalar.indexCast c1_i32_310
  let c0_i32_304 : BitVec 32 := 0#32
  let c0_i32_95 : BitVec 32 := 0#32
  let c1_i32_97 : BitVec 32 := 1#32
  let arg21 : BitVec 32 := Scf.iv c0_i32_95 c1_i32_97 k0_t6
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk24 (v281 : IVec S16 32) (v297 : IVec S16 32) : Prop :=
  (∀ a x, ((![v297, v281] : Fin 2 → IVec S16 32) a x).toNat < S4x4096.size a)
theorem k0_idx24_inb : ∀ (v281 : IVec S16 32) (v297 : IVec S16 32) (k0_hw24 : k0_chk24 v281 v297), ∀ a x, ((![v297, v281] : Fin 2 → IVec S16 32) a x).toNat < S4x4096.size a := fun v281 v297 k0_hw24 => k0_hw24
def k0_off32 (k0_t6 : Fin k0_t6_loop.trips) : Fin 2 → Nat :=
  let c0_i32_312 : BitVec 32 := 0#32
  let v299 : Index := Scalar.indexCast c0_i32_312
  let c0_i32_304 : BitVec 32 := 0#32
  let c0_i32_95 : BitVec 32 := 0#32
  let c1_i32_97 : BitVec 32 := 1#32
  let arg21 : BitVec 32 := Scf.iv c0_i32_95 c1_i32_97 k0_t6
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t7_loop : Scf.Loop 32 :=
  let c0_i32_114 : BitVec 32 := 0#32
  let c256_i32_115 : BitVec 32 := 256#32
  let v112 : BitVec 32 := Scalar.addi c0_i32_114 c256_i32_115
  let c1_i32_116 : BitVec 32 := 1#32
  ⟨c0_i32_114, v112, c1_i32_116⟩
def k0_off33 (k0_t7 : Fin k0_t7_loop.trips) : Fin 1 → Nat :=
  let c0_i32_304 : BitVec 32 := 0#32
  let c0_i32_114 : BitVec 32 := 0#32
  let c1_i32_116 : BitVec 32 := 1#32
  let arg21 : BitVec 32 := Scf.iv c0_i32_114 c1_i32_116 k0_t7
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk25 (v281 : IVec S16 32) (v282 : IVec S16 32) : Prop :=
  (∀ a x, ((![v282, v281] : Fin 2 → IVec S16 32) a x).toNat < S4x4096.size a)
theorem k0_idx25_inb : ∀ (v281 : IVec S16 32) (v282 : IVec S16 32) (k0_hw25 : k0_chk25 v281 v282), ∀ a x, ((![v282, v281] : Fin 2 → IVec S16 32) a x).toNat < S4x4096.size a := fun v281 v282 k0_hw25 => k0_hw25
def k0_off34 (k0_t7 : Fin k0_t7_loop.trips) : Fin 2 → Nat :=
  let c3_i32 : BitVec 32 := 3#32
  let v284 : Index := Scalar.indexCast c3_i32
  let c0_i32_304 : BitVec 32 := 0#32
  let c0_i32_114 : BitVec 32 := 0#32
  let c1_i32_116 : BitVec 32 := 1#32
  let arg21 : BitVec 32 := Scf.iv c0_i32_114 c1_i32_116 k0_t7
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk26 (v281 : IVec S16 32) (v287 : IVec S16 32) : Prop :=
  (∀ a x, ((![v287, v281] : Fin 2 → IVec S16 32) a x).toNat < S4x4096.size a)
theorem k0_idx26_inb : ∀ (v281 : IVec S16 32) (v287 : IVec S16 32) (k0_hw26 : k0_chk26 v281 v287), ∀ a x, ((![v287, v281] : Fin 2 → IVec S16 32) a x).toNat < S4x4096.size a := fun v281 v287 k0_hw26 => k0_hw26
def k0_off35 (k0_t7 : Fin k0_t7_loop.trips) : Fin 2 → Nat :=
  let c2_i32_308 : BitVec 32 := 2#32
  let v289 : Index := Scalar.indexCast c2_i32_308
  let c0_i32_304 : BitVec 32 := 0#32
  let c0_i32_114 : BitVec 32 := 0#32
  let c1_i32_116 : BitVec 32 := 1#32
  let arg21 : BitVec 32 := Scf.iv c0_i32_114 c1_i32_116 k0_t7
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk27 (v281 : IVec S16 32) (v292 : IVec S16 32) : Prop :=
  (∀ a x, ((![v292, v281] : Fin 2 → IVec S16 32) a x).toNat < S4x4096.size a)
theorem k0_idx27_inb : ∀ (v281 : IVec S16 32) (v292 : IVec S16 32) (k0_hw27 : k0_chk27 v281 v292), ∀ a x, ((![v292, v281] : Fin 2 → IVec S16 32) a x).toNat < S4x4096.size a := fun v281 v292 k0_hw27 => k0_hw27
def k0_off36 (k0_t7 : Fin k0_t7_loop.trips) : Fin 2 → Nat :=
  let c1_i32_310 : BitVec 32 := 1#32
  let v294 : Index := Scalar.indexCast c1_i32_310
  let c0_i32_304 : BitVec 32 := 0#32
  let c0_i32_114 : BitVec 32 := 0#32
  let c1_i32_116 : BitVec 32 := 1#32
  let arg21 : BitVec 32 := Scf.iv c0_i32_114 c1_i32_116 k0_t7
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk28 (v281 : IVec S16 32) (v297 : IVec S16 32) : Prop :=
  (∀ a x, ((![v297, v281] : Fin 2 → IVec S16 32) a x).toNat < S4x4096.size a)
theorem k0_idx28_inb : ∀ (v281 : IVec S16 32) (v297 : IVec S16 32) (k0_hw28 : k0_chk28 v281 v297), ∀ a x, ((![v297, v281] : Fin 2 → IVec S16 32) a x).toNat < S4x4096.size a := fun v281 v297 k0_hw28 => k0_hw28
def k0_off37 (k0_t7 : Fin k0_t7_loop.trips) : Fin 2 → Nat :=
  let c0_i32_312 : BitVec 32 := 0#32
  let v299 : Index := Scalar.indexCast c0_i32_312
  let c0_i32_304 : BitVec 32 := 0#32
  let c0_i32_114 : BitVec 32 := 0#32
  let c1_i32_116 : BitVec 32 := 1#32
  let arg21 : BitVec 32 := Scf.iv c0_i32_114 c1_i32_116 k0_t7
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t8_loop : Scf.Loop 32 :=
  let c0_i32_133 : BitVec 32 := 0#32
  let c256_i32_134 : BitVec 32 := 256#32
  let v129 : BitVec 32 := Scalar.addi c0_i32_133 c256_i32_134
  let c1_i32_135 : BitVec 32 := 1#32
  ⟨c0_i32_133, v129, c1_i32_135⟩
def k0_off38 (k0_t8 : Fin k0_t8_loop.trips) : Fin 1 → Nat :=
  let c0_i32_304 : BitVec 32 := 0#32
  let c0_i32_133 : BitVec 32 := 0#32
  let c1_i32_135 : BitVec 32 := 1#32
  let arg21 : BitVec 32 := Scf.iv c0_i32_133 c1_i32_135 k0_t8
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk29 (v281 : IVec S16 32) (v282 : IVec S16 32) : Prop :=
  (∀ a x, ((![v282, v281] : Fin 2 → IVec S16 32) a x).toNat < S4x4096.size a)
theorem k0_idx29_inb : ∀ (v281 : IVec S16 32) (v282 : IVec S16 32) (k0_hw29 : k0_chk29 v281 v282), ∀ a x, ((![v282, v281] : Fin 2 → IVec S16 32) a x).toNat < S4x4096.size a := fun v281 v282 k0_hw29 => k0_hw29
def k0_off39 (k0_t8 : Fin k0_t8_loop.trips) : Fin 2 → Nat :=
  let c3_i32 : BitVec 32 := 3#32
  let v284 : Index := Scalar.indexCast c3_i32
  let c0_i32_304 : BitVec 32 := 0#32
  let c0_i32_133 : BitVec 32 := 0#32
  let c1_i32_135 : BitVec 32 := 1#32
  let arg21 : BitVec 32 := Scf.iv c0_i32_133 c1_i32_135 k0_t8
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk30 (v281 : IVec S16 32) (v287 : IVec S16 32) : Prop :=
  (∀ a x, ((![v287, v281] : Fin 2 → IVec S16 32) a x).toNat < S4x4096.size a)
theorem k0_idx30_inb : ∀ (v281 : IVec S16 32) (v287 : IVec S16 32) (k0_hw30 : k0_chk30 v281 v287), ∀ a x, ((![v287, v281] : Fin 2 → IVec S16 32) a x).toNat < S4x4096.size a := fun v281 v287 k0_hw30 => k0_hw30
def k0_off40 (k0_t8 : Fin k0_t8_loop.trips) : Fin 2 → Nat :=
  let c2_i32_308 : BitVec 32 := 2#32
  let v289 : Index := Scalar.indexCast c2_i32_308
  let c0_i32_304 : BitVec 32 := 0#32
  let c0_i32_133 : BitVec 32 := 0#32
  let c1_i32_135 : BitVec 32 := 1#32
  let arg21 : BitVec 32 := Scf.iv c0_i32_133 c1_i32_135 k0_t8
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk31 (v281 : IVec S16 32) (v292 : IVec S16 32) : Prop :=
  (∀ a x, ((![v292, v281] : Fin 2 → IVec S16 32) a x).toNat < S4x4096.size a)
theorem k0_idx31_inb : ∀ (v281 : IVec S16 32) (v292 : IVec S16 32) (k0_hw31 : k0_chk31 v281 v292), ∀ a x, ((![v292, v281] : Fin 2 → IVec S16 32) a x).toNat < S4x4096.size a := fun v281 v292 k0_hw31 => k0_hw31
def k0_off41 (k0_t8 : Fin k0_t8_loop.trips) : Fin 2 → Nat :=
  let c1_i32_310 : BitVec 32 := 1#32
  let v294 : Index := Scalar.indexCast c1_i32_310
  let c0_i32_304 : BitVec 32 := 0#32
  let c0_i32_133 : BitVec 32 := 0#32
  let c1_i32_135 : BitVec 32 := 1#32
  let arg21 : BitVec 32 := Scf.iv c0_i32_133 c1_i32_135 k0_t8
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk32 (v281 : IVec S16 32) (v297 : IVec S16 32) : Prop :=
  (∀ a x, ((![v297, v281] : Fin 2 → IVec S16 32) a x).toNat < S4x4096.size a)
theorem k0_idx32_inb : ∀ (v281 : IVec S16 32) (v297 : IVec S16 32) (k0_hw32 : k0_chk32 v281 v297), ∀ a x, ((![v297, v281] : Fin 2 → IVec S16 32) a x).toNat < S4x4096.size a := fun v281 v297 k0_hw32 => k0_hw32
def k0_off42 (k0_t8 : Fin k0_t8_loop.trips) : Fin 2 → Nat :=
  let c0_i32_312 : BitVec 32 := 0#32
  let v299 : Index := Scalar.indexCast c0_i32_312
  let c0_i32_304 : BitVec 32 := 0#32
  let c0_i32_133 : BitVec 32 := 0#32
  let c1_i32_135 : BitVec 32 := 1#32
  let arg21 : BitVec 32 := Scf.iv c0_i32_133 c1_i32_135 k0_t8
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t9_loop : Scf.Loop 32 :=
  let c0_i32_152 : BitVec 32 := 0#32
  let c256_i32_153 : BitVec 32 := 256#32
  let v146 : BitVec 32 := Scalar.addi c0_i32_152 c256_i32_153
  let c1_i32_154 : BitVec 32 := 1#32
  ⟨c0_i32_152, v146, c1_i32_154⟩
def k0_off43 (k0_t9 : Fin k0_t9_loop.trips) : Fin 1 → Nat :=
  let c0_i32_304 : BitVec 32 := 0#32
  let c0_i32_152 : BitVec 32 := 0#32
  let c1_i32_154 : BitVec 32 := 1#32
  let arg21 : BitVec 32 := Scf.iv c0_i32_152 c1_i32_154 k0_t9
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk33 (v281 : IVec S16 32) (v282 : IVec S16 32) : Prop :=
  (∀ a x, ((![v282, v281] : Fin 2 → IVec S16 32) a x).toNat < S4x4096.size a)
theorem k0_idx33_inb : ∀ (v281 : IVec S16 32) (v282 : IVec S16 32) (k0_hw33 : k0_chk33 v281 v282), ∀ a x, ((![v282, v281] : Fin 2 → IVec S16 32) a x).toNat < S4x4096.size a := fun v281 v282 k0_hw33 => k0_hw33
def k0_off44 (k0_t9 : Fin k0_t9_loop.trips) : Fin 2 → Nat :=
  let c3_i32 : BitVec 32 := 3#32
  let v284 : Index := Scalar.indexCast c3_i32
  let c0_i32_304 : BitVec 32 := 0#32
  let c0_i32_152 : BitVec 32 := 0#32
  let c1_i32_154 : BitVec 32 := 1#32
  let arg21 : BitVec 32 := Scf.iv c0_i32_152 c1_i32_154 k0_t9
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk34 (v281 : IVec S16 32) (v287 : IVec S16 32) : Prop :=
  (∀ a x, ((![v287, v281] : Fin 2 → IVec S16 32) a x).toNat < S4x4096.size a)
theorem k0_idx34_inb : ∀ (v281 : IVec S16 32) (v287 : IVec S16 32) (k0_hw34 : k0_chk34 v281 v287), ∀ a x, ((![v287, v281] : Fin 2 → IVec S16 32) a x).toNat < S4x4096.size a := fun v281 v287 k0_hw34 => k0_hw34
def k0_off45 (k0_t9 : Fin k0_t9_loop.trips) : Fin 2 → Nat :=
  let c2_i32_308 : BitVec 32 := 2#32
  let v289 : Index := Scalar.indexCast c2_i32_308
  let c0_i32_304 : BitVec 32 := 0#32
  let c0_i32_152 : BitVec 32 := 0#32
  let c1_i32_154 : BitVec 32 := 1#32
  let arg21 : BitVec 32 := Scf.iv c0_i32_152 c1_i32_154 k0_t9
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk35 (v281 : IVec S16 32) (v292 : IVec S16 32) : Prop :=
  (∀ a x, ((![v292, v281] : Fin 2 → IVec S16 32) a x).toNat < S4x4096.size a)
theorem k0_idx35_inb : ∀ (v281 : IVec S16 32) (v292 : IVec S16 32) (k0_hw35 : k0_chk35 v281 v292), ∀ a x, ((![v292, v281] : Fin 2 → IVec S16 32) a x).toNat < S4x4096.size a := fun v281 v292 k0_hw35 => k0_hw35
def k0_off46 (k0_t9 : Fin k0_t9_loop.trips) : Fin 2 → Nat :=
  let c1_i32_310 : BitVec 32 := 1#32
  let v294 : Index := Scalar.indexCast c1_i32_310
  let c0_i32_304 : BitVec 32 := 0#32
  let c0_i32_152 : BitVec 32 := 0#32
  let c1_i32_154 : BitVec 32 := 1#32
  let arg21 : BitVec 32 := Scf.iv c0_i32_152 c1_i32_154 k0_t9
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk36 (v281 : IVec S16 32) (v297 : IVec S16 32) : Prop :=
  (∀ a x, ((![v297, v281] : Fin 2 → IVec S16 32) a x).toNat < S4x4096.size a)
theorem k0_idx36_inb : ∀ (v281 : IVec S16 32) (v297 : IVec S16 32) (k0_hw36 : k0_chk36 v281 v297), ∀ a x, ((![v297, v281] : Fin 2 → IVec S16 32) a x).toNat < S4x4096.size a := fun v281 v297 k0_hw36 => k0_hw36
def k0_off47 (k0_t9 : Fin k0_t9_loop.trips) : Fin 2 → Nat :=
  let c0_i32_312 : BitVec 32 := 0#32
  let v299 : Index := Scalar.indexCast c0_i32_312
  let c0_i32_304 : BitVec 32 := 0#32
  let c0_i32_152 : BitVec 32 := 0#32
  let c1_i32_154 : BitVec 32 := 1#32
  let arg21 : BitVec 32 := Scf.iv c0_i32_152 c1_i32_154 k0_t9
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t10_loop : Scf.Loop 32 :=
  let c0_i32_171 : BitVec 32 := 0#32
  let c256_i32_172 : BitVec 32 := 256#32
  let v163 : BitVec 32 := Scalar.addi c0_i32_171 c256_i32_172
  let c1_i32_173 : BitVec 32 := 1#32
  ⟨c0_i32_171, v163, c1_i32_173⟩
def k0_off48 (k0_t10 : Fin k0_t10_loop.trips) : Fin 1 → Nat :=
  let c0_i32_304 : BitVec 32 := 0#32
  let c0_i32_171 : BitVec 32 := 0#32
  let c1_i32_173 : BitVec 32 := 1#32
  let arg21 : BitVec 32 := Scf.iv c0_i32_171 c1_i32_173 k0_t10
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk37 (v281 : IVec S16 32) (v282 : IVec S16 32) : Prop :=
  (∀ a x, ((![v282, v281] : Fin 2 → IVec S16 32) a x).toNat < S4x4096.size a)
theorem k0_idx37_inb : ∀ (v281 : IVec S16 32) (v282 : IVec S16 32) (k0_hw37 : k0_chk37 v281 v282), ∀ a x, ((![v282, v281] : Fin 2 → IVec S16 32) a x).toNat < S4x4096.size a := fun v281 v282 k0_hw37 => k0_hw37
def k0_off49 (k0_t10 : Fin k0_t10_loop.trips) : Fin 2 → Nat :=
  let c3_i32 : BitVec 32 := 3#32
  let v284 : Index := Scalar.indexCast c3_i32
  let c0_i32_304 : BitVec 32 := 0#32
  let c0_i32_171 : BitVec 32 := 0#32
  let c1_i32_173 : BitVec 32 := 1#32
  let arg21 : BitVec 32 := Scf.iv c0_i32_171 c1_i32_173 k0_t10
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk38 (v281 : IVec S16 32) (v287 : IVec S16 32) : Prop :=
  (∀ a x, ((![v287, v281] : Fin 2 → IVec S16 32) a x).toNat < S4x4096.size a)
theorem k0_idx38_inb : ∀ (v281 : IVec S16 32) (v287 : IVec S16 32) (k0_hw38 : k0_chk38 v281 v287), ∀ a x, ((![v287, v281] : Fin 2 → IVec S16 32) a x).toNat < S4x4096.size a := fun v281 v287 k0_hw38 => k0_hw38
def k0_off50 (k0_t10 : Fin k0_t10_loop.trips) : Fin 2 → Nat :=
  let c2_i32_308 : BitVec 32 := 2#32
  let v289 : Index := Scalar.indexCast c2_i32_308
  let c0_i32_304 : BitVec 32 := 0#32
  let c0_i32_171 : BitVec 32 := 0#32
  let c1_i32_173 : BitVec 32 := 1#32
  let arg21 : BitVec 32 := Scf.iv c0_i32_171 c1_i32_173 k0_t10
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk39 (v281 : IVec S16 32) (v292 : IVec S16 32) : Prop :=
  (∀ a x, ((![v292, v281] : Fin 2 → IVec S16 32) a x).toNat < S4x4096.size a)
theorem k0_idx39_inb : ∀ (v281 : IVec S16 32) (v292 : IVec S16 32) (k0_hw39 : k0_chk39 v281 v292), ∀ a x, ((![v292, v281] : Fin 2 → IVec S16 32) a x).toNat < S4x4096.size a := fun v281 v292 k0_hw39 => k0_hw39
def k0_off51 (k0_t10 : Fin k0_t10_loop.trips) : Fin 2 → Nat :=
  let c1_i32_310 : BitVec 32 := 1#32
  let v294 : Index := Scalar.indexCast c1_i32_310
  let c0_i32_304 : BitVec 32 := 0#32
  let c0_i32_171 : BitVec 32 := 0#32
  let c1_i32_173 : BitVec 32 := 1#32
  let arg21 : BitVec 32 := Scf.iv c0_i32_171 c1_i32_173 k0_t10
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk40 (v281 : IVec S16 32) (v297 : IVec S16 32) : Prop :=
  (∀ a x, ((![v297, v281] : Fin 2 → IVec S16 32) a x).toNat < S4x4096.size a)
theorem k0_idx40_inb : ∀ (v281 : IVec S16 32) (v297 : IVec S16 32) (k0_hw40 : k0_chk40 v281 v297), ∀ a x, ((![v297, v281] : Fin 2 → IVec S16 32) a x).toNat < S4x4096.size a := fun v281 v297 k0_hw40 => k0_hw40
def k0_off52 (k0_t10 : Fin k0_t10_loop.trips) : Fin 2 → Nat :=
  let c0_i32_312 : BitVec 32 := 0#32
  let v299 : Index := Scalar.indexCast c0_i32_312
  let c0_i32_304 : BitVec 32 := 0#32
  let c0_i32_171 : BitVec 32 := 0#32
  let c1_i32_173 : BitVec 32 := 1#32
  let arg21 : BitVec 32 := Scf.iv c0_i32_171 c1_i32_173 k0_t10
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t11_loop : Scf.Loop 32 :=
  let c0_i32_190 : BitVec 32 := 0#32
  let c256_i32_191 : BitVec 32 := 256#32
  let v180 : BitVec 32 := Scalar.addi c0_i32_190 c256_i32_191
  let c1_i32_192 : BitVec 32 := 1#32
  ⟨c0_i32_190, v180, c1_i32_192⟩
def k0_off53 (k0_t11 : Fin k0_t11_loop.trips) : Fin 1 → Nat :=
  let c0_i32_304 : BitVec 32 := 0#32
  let c0_i32_190 : BitVec 32 := 0#32
  let c1_i32_192 : BitVec 32 := 1#32
  let arg21 : BitVec 32 := Scf.iv c0_i32_190 c1_i32_192 k0_t11
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk41 (v281 : IVec S16 32) (v282 : IVec S16 32) : Prop :=
  (∀ a x, ((![v282, v281] : Fin 2 → IVec S16 32) a x).toNat < S4x4096.size a)
theorem k0_idx41_inb : ∀ (v281 : IVec S16 32) (v282 : IVec S16 32) (k0_hw41 : k0_chk41 v281 v282), ∀ a x, ((![v282, v281] : Fin 2 → IVec S16 32) a x).toNat < S4x4096.size a := fun v281 v282 k0_hw41 => k0_hw41
def k0_off54 (k0_t11 : Fin k0_t11_loop.trips) : Fin 2 → Nat :=
  let c3_i32 : BitVec 32 := 3#32
  let v284 : Index := Scalar.indexCast c3_i32
  let c0_i32_304 : BitVec 32 := 0#32
  let c0_i32_190 : BitVec 32 := 0#32
  let c1_i32_192 : BitVec 32 := 1#32
  let arg21 : BitVec 32 := Scf.iv c0_i32_190 c1_i32_192 k0_t11
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk42 (v281 : IVec S16 32) (v287 : IVec S16 32) : Prop :=
  (∀ a x, ((![v287, v281] : Fin 2 → IVec S16 32) a x).toNat < S4x4096.size a)
theorem k0_idx42_inb : ∀ (v281 : IVec S16 32) (v287 : IVec S16 32) (k0_hw42 : k0_chk42 v281 v287), ∀ a x, ((![v287, v281] : Fin 2 → IVec S16 32) a x).toNat < S4x4096.size a := fun v281 v287 k0_hw42 => k0_hw42
def k0_off55 (k0_t11 : Fin k0_t11_loop.trips) : Fin 2 → Nat :=
  let c2_i32_308 : BitVec 32 := 2#32
  let v289 : Index := Scalar.indexCast c2_i32_308
  let c0_i32_304 : BitVec 32 := 0#32
  let c0_i32_190 : BitVec 32 := 0#32
  let c1_i32_192 : BitVec 32 := 1#32
  let arg21 : BitVec 32 := Scf.iv c0_i32_190 c1_i32_192 k0_t11
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk43 (v281 : IVec S16 32) (v292 : IVec S16 32) : Prop :=
  (∀ a x, ((![v292, v281] : Fin 2 → IVec S16 32) a x).toNat < S4x4096.size a)
theorem k0_idx43_inb : ∀ (v281 : IVec S16 32) (v292 : IVec S16 32) (k0_hw43 : k0_chk43 v281 v292), ∀ a x, ((![v292, v281] : Fin 2 → IVec S16 32) a x).toNat < S4x4096.size a := fun v281 v292 k0_hw43 => k0_hw43
def k0_off56 (k0_t11 : Fin k0_t11_loop.trips) : Fin 2 → Nat :=
  let c1_i32_310 : BitVec 32 := 1#32
  let v294 : Index := Scalar.indexCast c1_i32_310
  let c0_i32_304 : BitVec 32 := 0#32
  let c0_i32_190 : BitVec 32 := 0#32
  let c1_i32_192 : BitVec 32 := 1#32
  let arg21 : BitVec 32 := Scf.iv c0_i32_190 c1_i32_192 k0_t11
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk44 (v281 : IVec S16 32) (v297 : IVec S16 32) : Prop :=
  (∀ a x, ((![v297, v281] : Fin 2 → IVec S16 32) a x).toNat < S4x4096.size a)
theorem k0_idx44_inb : ∀ (v281 : IVec S16 32) (v297 : IVec S16 32) (k0_hw44 : k0_chk44 v281 v297), ∀ a x, ((![v297, v281] : Fin 2 → IVec S16 32) a x).toNat < S4x4096.size a := fun v281 v297 k0_hw44 => k0_hw44
def k0_off57 (k0_t11 : Fin k0_t11_loop.trips) : Fin 2 → Nat :=
  let c0_i32_312 : BitVec 32 := 0#32
  let v299 : Index := Scalar.indexCast c0_i32_312
  let c0_i32_304 : BitVec 32 := 0#32
  let c0_i32_190 : BitVec 32 := 0#32
  let c1_i32_192 : BitVec 32 := 1#32
  let arg21 : BitVec 32 := Scf.iv c0_i32_190 c1_i32_192 k0_t11
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t12_loop : Scf.Loop 32 :=
  let c0_i32_209 : BitVec 32 := 0#32
  let c256_i32_210 : BitVec 32 := 256#32
  let v197 : BitVec 32 := Scalar.addi c0_i32_209 c256_i32_210
  let c1_i32_211 : BitVec 32 := 1#32
  ⟨c0_i32_209, v197, c1_i32_211⟩
def k0_off58 (k0_t12 : Fin k0_t12_loop.trips) : Fin 1 → Nat :=
  let c0_i32_304 : BitVec 32 := 0#32
  let c0_i32_209 : BitVec 32 := 0#32
  let c1_i32_211 : BitVec 32 := 1#32
  let arg21 : BitVec 32 := Scf.iv c0_i32_209 c1_i32_211 k0_t12
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk45 (v281 : IVec S16 32) (v282 : IVec S16 32) : Prop :=
  (∀ a x, ((![v282, v281] : Fin 2 → IVec S16 32) a x).toNat < S4x4096.size a)
theorem k0_idx45_inb : ∀ (v281 : IVec S16 32) (v282 : IVec S16 32) (k0_hw45 : k0_chk45 v281 v282), ∀ a x, ((![v282, v281] : Fin 2 → IVec S16 32) a x).toNat < S4x4096.size a := fun v281 v282 k0_hw45 => k0_hw45
def k0_off59 (k0_t12 : Fin k0_t12_loop.trips) : Fin 2 → Nat :=
  let c3_i32 : BitVec 32 := 3#32
  let v284 : Index := Scalar.indexCast c3_i32
  let c0_i32_304 : BitVec 32 := 0#32
  let c0_i32_209 : BitVec 32 := 0#32
  let c1_i32_211 : BitVec 32 := 1#32
  let arg21 : BitVec 32 := Scf.iv c0_i32_209 c1_i32_211 k0_t12
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk46 (v281 : IVec S16 32) (v287 : IVec S16 32) : Prop :=
  (∀ a x, ((![v287, v281] : Fin 2 → IVec S16 32) a x).toNat < S4x4096.size a)
theorem k0_idx46_inb : ∀ (v281 : IVec S16 32) (v287 : IVec S16 32) (k0_hw46 : k0_chk46 v281 v287), ∀ a x, ((![v287, v281] : Fin 2 → IVec S16 32) a x).toNat < S4x4096.size a := fun v281 v287 k0_hw46 => k0_hw46
def k0_off60 (k0_t12 : Fin k0_t12_loop.trips) : Fin 2 → Nat :=
  let c2_i32_308 : BitVec 32 := 2#32
  let v289 : Index := Scalar.indexCast c2_i32_308
  let c0_i32_304 : BitVec 32 := 0#32
  let c0_i32_209 : BitVec 32 := 0#32
  let c1_i32_211 : BitVec 32 := 1#32
  let arg21 : BitVec 32 := Scf.iv c0_i32_209 c1_i32_211 k0_t12
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk47 (v281 : IVec S16 32) (v292 : IVec S16 32) : Prop :=
  (∀ a x, ((![v292, v281] : Fin 2 → IVec S16 32) a x).toNat < S4x4096.size a)
theorem k0_idx47_inb : ∀ (v281 : IVec S16 32) (v292 : IVec S16 32) (k0_hw47 : k0_chk47 v281 v292), ∀ a x, ((![v292, v281] : Fin 2 → IVec S16 32) a x).toNat < S4x4096.size a := fun v281 v292 k0_hw47 => k0_hw47
def k0_off61 (k0_t12 : Fin k0_t12_loop.trips) : Fin 2 → Nat :=
  let c1_i32_310 : BitVec 32 := 1#32
  let v294 : Index := Scalar.indexCast c1_i32_310
  let c0_i32_304 : BitVec 32 := 0#32
  let c0_i32_209 : BitVec 32 := 0#32
  let c1_i32_211 : BitVec 32 := 1#32
  let arg21 : BitVec 32 := Scf.iv c0_i32_209 c1_i32_211 k0_t12
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk48 (v281 : IVec S16 32) (v297 : IVec S16 32) : Prop :=
  (∀ a x, ((![v297, v281] : Fin 2 → IVec S16 32) a x).toNat < S4x4096.size a)
theorem k0_idx48_inb : ∀ (v281 : IVec S16 32) (v297 : IVec S16 32) (k0_hw48 : k0_chk48 v281 v297), ∀ a x, ((![v297, v281] : Fin 2 → IVec S16 32) a x).toNat < S4x4096.size a := fun v281 v297 k0_hw48 => k0_hw48
def k0_off62 (k0_t12 : Fin k0_t12_loop.trips) : Fin 2 → Nat :=
  let c0_i32_312 : BitVec 32 := 0#32
  let v299 : Index := Scalar.indexCast c0_i32_312
  let c0_i32_304 : BitVec 32 := 0#32
  let c0_i32_209 : BitVec 32 := 0#32
  let c1_i32_211 : BitVec 32 := 1#32
  let arg21 : BitVec 32 := Scf.iv c0_i32_209 c1_i32_211 k0_t12
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t13_loop : Scf.Loop 32 :=
  let c0_i32_228 : BitVec 32 := 0#32
  let c256_i32_229 : BitVec 32 := 256#32
  let v214 : BitVec 32 := Scalar.addi c0_i32_228 c256_i32_229
  let c1_i32_230 : BitVec 32 := 1#32
  ⟨c0_i32_228, v214, c1_i32_230⟩
def k0_off63 (k0_t13 : Fin k0_t13_loop.trips) : Fin 1 → Nat :=
  let c0_i32_304 : BitVec 32 := 0#32
  let c0_i32_228 : BitVec 32 := 0#32
  let c1_i32_230 : BitVec 32 := 1#32
  let arg21 : BitVec 32 := Scf.iv c0_i32_228 c1_i32_230 k0_t13
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk49 (v281 : IVec S16 32) (v282 : IVec S16 32) : Prop :=
  (∀ a x, ((![v282, v281] : Fin 2 → IVec S16 32) a x).toNat < S4x4096.size a)
theorem k0_idx49_inb : ∀ (v281 : IVec S16 32) (v282 : IVec S16 32) (k0_hw49 : k0_chk49 v281 v282), ∀ a x, ((![v282, v281] : Fin 2 → IVec S16 32) a x).toNat < S4x4096.size a := fun v281 v282 k0_hw49 => k0_hw49
def k0_off64 (k0_t13 : Fin k0_t13_loop.trips) : Fin 2 → Nat :=
  let c3_i32 : BitVec 32 := 3#32
  let v284 : Index := Scalar.indexCast c3_i32
  let c0_i32_304 : BitVec 32 := 0#32
  let c0_i32_228 : BitVec 32 := 0#32
  let c1_i32_230 : BitVec 32 := 1#32
  let arg21 : BitVec 32 := Scf.iv c0_i32_228 c1_i32_230 k0_t13
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk50 (v281 : IVec S16 32) (v287 : IVec S16 32) : Prop :=
  (∀ a x, ((![v287, v281] : Fin 2 → IVec S16 32) a x).toNat < S4x4096.size a)
theorem k0_idx50_inb : ∀ (v281 : IVec S16 32) (v287 : IVec S16 32) (k0_hw50 : k0_chk50 v281 v287), ∀ a x, ((![v287, v281] : Fin 2 → IVec S16 32) a x).toNat < S4x4096.size a := fun v281 v287 k0_hw50 => k0_hw50
def k0_off65 (k0_t13 : Fin k0_t13_loop.trips) : Fin 2 → Nat :=
  let c2_i32_308 : BitVec 32 := 2#32
  let v289 : Index := Scalar.indexCast c2_i32_308
  let c0_i32_304 : BitVec 32 := 0#32
  let c0_i32_228 : BitVec 32 := 0#32
  let c1_i32_230 : BitVec 32 := 1#32
  let arg21 : BitVec 32 := Scf.iv c0_i32_228 c1_i32_230 k0_t13
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk51 (v281 : IVec S16 32) (v292 : IVec S16 32) : Prop :=
  (∀ a x, ((![v292, v281] : Fin 2 → IVec S16 32) a x).toNat < S4x4096.size a)
theorem k0_idx51_inb : ∀ (v281 : IVec S16 32) (v292 : IVec S16 32) (k0_hw51 : k0_chk51 v281 v292), ∀ a x, ((![v292, v281] : Fin 2 → IVec S16 32) a x).toNat < S4x4096.size a := fun v281 v292 k0_hw51 => k0_hw51
def k0_off66 (k0_t13 : Fin k0_t13_loop.trips) : Fin 2 → Nat :=
  let c1_i32_310 : BitVec 32 := 1#32
  let v294 : Index := Scalar.indexCast c1_i32_310
  let c0_i32_304 : BitVec 32 := 0#32
  let c0_i32_228 : BitVec 32 := 0#32
  let c1_i32_230 : BitVec 32 := 1#32
  let arg21 : BitVec 32 := Scf.iv c0_i32_228 c1_i32_230 k0_t13
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk52 (v281 : IVec S16 32) (v297 : IVec S16 32) : Prop :=
  (∀ a x, ((![v297, v281] : Fin 2 → IVec S16 32) a x).toNat < S4x4096.size a)
theorem k0_idx52_inb : ∀ (v281 : IVec S16 32) (v297 : IVec S16 32) (k0_hw52 : k0_chk52 v281 v297), ∀ a x, ((![v297, v281] : Fin 2 → IVec S16 32) a x).toNat < S4x4096.size a := fun v281 v297 k0_hw52 => k0_hw52
def k0_off67 (k0_t13 : Fin k0_t13_loop.trips) : Fin 2 → Nat :=
  let c0_i32_312 : BitVec 32 := 0#32
  let v299 : Index := Scalar.indexCast c0_i32_312
  let c0_i32_304 : BitVec 32 := 0#32
  let c0_i32_228 : BitVec 32 := 0#32
  let c1_i32_230 : BitVec 32 := 1#32
  let arg21 : BitVec 32 := Scf.iv c0_i32_228 c1_i32_230 k0_t13
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t14_loop : Scf.Loop 32 :=
  let c0_i32_245 : BitVec 32 := 0#32
  let c256_i32_246 : BitVec 32 := 256#32
  let v228 : BitVec 32 := Scalar.addi c0_i32_245 c256_i32_246
  let c1_i32_247 : BitVec 32 := 1#32
  ⟨c0_i32_245, v228, c1_i32_247⟩
def k0_off68 (k0_t14 : Fin k0_t14_loop.trips) : Fin 1 → Nat :=
  let c0_i32_304 : BitVec 32 := 0#32
  let c0_i32_245 : BitVec 32 := 0#32
  let c1_i32_247 : BitVec 32 := 1#32
  let arg21 : BitVec 32 := Scf.iv c0_i32_245 c1_i32_247 k0_t14
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk53 (v281 : IVec S16 32) (v282 : IVec S16 32) : Prop :=
  (∀ a x, ((![v282, v281] : Fin 2 → IVec S16 32) a x).toNat < S4x4096.size a)
theorem k0_idx53_inb : ∀ (v281 : IVec S16 32) (v282 : IVec S16 32) (k0_hw53 : k0_chk53 v281 v282), ∀ a x, ((![v282, v281] : Fin 2 → IVec S16 32) a x).toNat < S4x4096.size a := fun v281 v282 k0_hw53 => k0_hw53
def k0_off69 (k0_t14 : Fin k0_t14_loop.trips) : Fin 2 → Nat :=
  let c3_i32 : BitVec 32 := 3#32
  let v284 : Index := Scalar.indexCast c3_i32
  let c0_i32_304 : BitVec 32 := 0#32
  let c0_i32_245 : BitVec 32 := 0#32
  let c1_i32_247 : BitVec 32 := 1#32
  let arg21 : BitVec 32 := Scf.iv c0_i32_245 c1_i32_247 k0_t14
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk54 (v281 : IVec S16 32) (v287 : IVec S16 32) : Prop :=
  (∀ a x, ((![v287, v281] : Fin 2 → IVec S16 32) a x).toNat < S4x4096.size a)
theorem k0_idx54_inb : ∀ (v281 : IVec S16 32) (v287 : IVec S16 32) (k0_hw54 : k0_chk54 v281 v287), ∀ a x, ((![v287, v281] : Fin 2 → IVec S16 32) a x).toNat < S4x4096.size a := fun v281 v287 k0_hw54 => k0_hw54
def k0_off70 (k0_t14 : Fin k0_t14_loop.trips) : Fin 2 → Nat :=
  let c2_i32_308 : BitVec 32 := 2#32
  let v289 : Index := Scalar.indexCast c2_i32_308
  let c0_i32_304 : BitVec 32 := 0#32
  let c0_i32_245 : BitVec 32 := 0#32
  let c1_i32_247 : BitVec 32 := 1#32
  let arg21 : BitVec 32 := Scf.iv c0_i32_245 c1_i32_247 k0_t14
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk55 (v281 : IVec S16 32) (v292 : IVec S16 32) : Prop :=
  (∀ a x, ((![v292, v281] : Fin 2 → IVec S16 32) a x).toNat < S4x4096.size a)
theorem k0_idx55_inb : ∀ (v281 : IVec S16 32) (v292 : IVec S16 32) (k0_hw55 : k0_chk55 v281 v292), ∀ a x, ((![v292, v281] : Fin 2 → IVec S16 32) a x).toNat < S4x4096.size a := fun v281 v292 k0_hw55 => k0_hw55
def k0_off71 (k0_t14 : Fin k0_t14_loop.trips) : Fin 2 → Nat :=
  let c1_i32_310 : BitVec 32 := 1#32
  let v294 : Index := Scalar.indexCast c1_i32_310
  let c0_i32_304 : BitVec 32 := 0#32
  let c0_i32_245 : BitVec 32 := 0#32
  let c1_i32_247 : BitVec 32 := 1#32
  let arg21 : BitVec 32 := Scf.iv c0_i32_245 c1_i32_247 k0_t14
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk56 (v281 : IVec S16 32) (v297 : IVec S16 32) : Prop :=
  (∀ a x, ((![v297, v281] : Fin 2 → IVec S16 32) a x).toNat < S4x4096.size a)
theorem k0_idx56_inb : ∀ (v281 : IVec S16 32) (v297 : IVec S16 32) (k0_hw56 : k0_chk56 v281 v297), ∀ a x, ((![v297, v281] : Fin 2 → IVec S16 32) a x).toNat < S4x4096.size a := fun v281 v297 k0_hw56 => k0_hw56
def k0_off72 (k0_t14 : Fin k0_t14_loop.trips) : Fin 2 → Nat :=
  let c0_i32_312 : BitVec 32 := 0#32
  let v299 : Index := Scalar.indexCast c0_i32_312
  let c0_i32_304 : BitVec 32 := 0#32
  let c0_i32_245 : BitVec 32 := 0#32
  let c1_i32_247 : BitVec 32 := 1#32
  let arg21 : BitVec 32 := Scf.iv c0_i32_245 c1_i32_247 k0_t14
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t15_loop : Scf.Loop 32 :=
  let c0_i32_262 : BitVec 32 := 0#32
  let c256_i32_263 : BitVec 32 := 256#32
  let v242 : BitVec 32 := Scalar.addi c0_i32_262 c256_i32_263
  let c1_i32_264 : BitVec 32 := 1#32
  ⟨c0_i32_262, v242, c1_i32_264⟩
def k0_off73 (k0_t15 : Fin k0_t15_loop.trips) : Fin 1 → Nat :=
  let c0_i32_304 : BitVec 32 := 0#32
  let c0_i32_262 : BitVec 32 := 0#32
  let c1_i32_264 : BitVec 32 := 1#32
  let arg21 : BitVec 32 := Scf.iv c0_i32_262 c1_i32_264 k0_t15
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk57 (v281 : IVec S16 32) (v282 : IVec S16 32) : Prop :=
  (∀ a x, ((![v282, v281] : Fin 2 → IVec S16 32) a x).toNat < S4x4096.size a)
theorem k0_idx57_inb : ∀ (v281 : IVec S16 32) (v282 : IVec S16 32) (k0_hw57 : k0_chk57 v281 v282), ∀ a x, ((![v282, v281] : Fin 2 → IVec S16 32) a x).toNat < S4x4096.size a := fun v281 v282 k0_hw57 => k0_hw57
def k0_off74 (k0_t15 : Fin k0_t15_loop.trips) : Fin 2 → Nat :=
  let c3_i32 : BitVec 32 := 3#32
  let v284 : Index := Scalar.indexCast c3_i32
  let c0_i32_304 : BitVec 32 := 0#32
  let c0_i32_262 : BitVec 32 := 0#32
  let c1_i32_264 : BitVec 32 := 1#32
  let arg21 : BitVec 32 := Scf.iv c0_i32_262 c1_i32_264 k0_t15
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk58 (v281 : IVec S16 32) (v287 : IVec S16 32) : Prop :=
  (∀ a x, ((![v287, v281] : Fin 2 → IVec S16 32) a x).toNat < S4x4096.size a)
theorem k0_idx58_inb : ∀ (v281 : IVec S16 32) (v287 : IVec S16 32) (k0_hw58 : k0_chk58 v281 v287), ∀ a x, ((![v287, v281] : Fin 2 → IVec S16 32) a x).toNat < S4x4096.size a := fun v281 v287 k0_hw58 => k0_hw58
def k0_off75 (k0_t15 : Fin k0_t15_loop.trips) : Fin 2 → Nat :=
  let c2_i32_308 : BitVec 32 := 2#32
  let v289 : Index := Scalar.indexCast c2_i32_308
  let c0_i32_304 : BitVec 32 := 0#32
  let c0_i32_262 : BitVec 32 := 0#32
  let c1_i32_264 : BitVec 32 := 1#32
  let arg21 : BitVec 32 := Scf.iv c0_i32_262 c1_i32_264 k0_t15
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk59 (v281 : IVec S16 32) (v292 : IVec S16 32) : Prop :=
  (∀ a x, ((![v292, v281] : Fin 2 → IVec S16 32) a x).toNat < S4x4096.size a)
theorem k0_idx59_inb : ∀ (v281 : IVec S16 32) (v292 : IVec S16 32) (k0_hw59 : k0_chk59 v281 v292), ∀ a x, ((![v292, v281] : Fin 2 → IVec S16 32) a x).toNat < S4x4096.size a := fun v281 v292 k0_hw59 => k0_hw59
def k0_off76 (k0_t15 : Fin k0_t15_loop.trips) : Fin 2 → Nat :=
  let c1_i32_310 : BitVec 32 := 1#32
  let v294 : Index := Scalar.indexCast c1_i32_310
  let c0_i32_304 : BitVec 32 := 0#32
  let c0_i32_262 : BitVec 32 := 0#32
  let c1_i32_264 : BitVec 32 := 1#32
  let arg21 : BitVec 32 := Scf.iv c0_i32_262 c1_i32_264 k0_t15
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk60 (v281 : IVec S16 32) (v297 : IVec S16 32) : Prop :=
  (∀ a x, ((![v297, v281] : Fin 2 → IVec S16 32) a x).toNat < S4x4096.size a)
theorem k0_idx60_inb : ∀ (v281 : IVec S16 32) (v297 : IVec S16 32) (k0_hw60 : k0_chk60 v281 v297), ∀ a x, ((![v297, v281] : Fin 2 → IVec S16 32) a x).toNat < S4x4096.size a := fun v281 v297 k0_hw60 => k0_hw60
def k0_off77 (k0_t15 : Fin k0_t15_loop.trips) : Fin 2 → Nat :=
  let c0_i32_312 : BitVec 32 := 0#32
  let v299 : Index := Scalar.indexCast c0_i32_312
  let c0_i32_304 : BitVec 32 := 0#32
  let c0_i32_262 : BitVec 32 := 0#32
  let c1_i32_264 : BitVec 32 := 1#32
  let arg21 : BitVec 32 := Scf.iv c0_i32_262 c1_i32_264 k0_t15
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
@[reducible] def k0_t16_loop : Scf.Loop 32 :=
  let c0_i32_279 : BitVec 32 := 0#32
  let c256_i32_280 : BitVec 32 := 256#32
  let v256 : BitVec 32 := Scalar.addi c0_i32_279 c256_i32_280
  let c1_i32_281 : BitVec 32 := 1#32
  ⟨c0_i32_279, v256, c1_i32_281⟩
def k0_off78 (k0_t16 : Fin k0_t16_loop.trips) : Fin 1 → Nat :=
  let c0_i32_304 : BitVec 32 := 0#32
  let c0_i32_279 : BitVec 32 := 0#32
  let c1_i32_281 : BitVec 32 := 1#32
  let arg21 : BitVec 32 := Scf.iv c0_i32_279 c1_i32_281 k0_t16
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v280 : Index := Scalar.indexCast v279
  ![v280.toNat]

def k0_chk61 (v281 : IVec S16 32) (v282 : IVec S16 32) : Prop :=
  (∀ a x, ((![v282, v281] : Fin 2 → IVec S16 32) a x).toNat < S4x4096.size a)
theorem k0_idx61_inb : ∀ (v281 : IVec S16 32) (v282 : IVec S16 32) (k0_hw61 : k0_chk61 v281 v282), ∀ a x, ((![v282, v281] : Fin 2 → IVec S16 32) a x).toNat < S4x4096.size a := fun v281 v282 k0_hw61 => k0_hw61
def k0_off79 (k0_t16 : Fin k0_t16_loop.trips) : Fin 2 → Nat :=
  let c3_i32 : BitVec 32 := 3#32
  let v284 : Index := Scalar.indexCast c3_i32
  let c0_i32_304 : BitVec 32 := 0#32
  let c0_i32_279 : BitVec 32 := 0#32
  let c1_i32_281 : BitVec 32 := 1#32
  let arg21 : BitVec 32 := Scf.iv c0_i32_279 c1_i32_281 k0_t16
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v285 : Index := Scalar.indexCast v279
  ![3, v285.toNat]

def k0_chk62 (v281 : IVec S16 32) (v287 : IVec S16 32) : Prop :=
  (∀ a x, ((![v287, v281] : Fin 2 → IVec S16 32) a x).toNat < S4x4096.size a)
theorem k0_idx62_inb : ∀ (v281 : IVec S16 32) (v287 : IVec S16 32) (k0_hw62 : k0_chk62 v281 v287), ∀ a x, ((![v287, v281] : Fin 2 → IVec S16 32) a x).toNat < S4x4096.size a := fun v281 v287 k0_hw62 => k0_hw62
def k0_off80 (k0_t16 : Fin k0_t16_loop.trips) : Fin 2 → Nat :=
  let c2_i32_308 : BitVec 32 := 2#32
  let v289 : Index := Scalar.indexCast c2_i32_308
  let c0_i32_304 : BitVec 32 := 0#32
  let c0_i32_279 : BitVec 32 := 0#32
  let c1_i32_281 : BitVec 32 := 1#32
  let arg21 : BitVec 32 := Scf.iv c0_i32_279 c1_i32_281 k0_t16
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v290 : Index := Scalar.indexCast v279
  ![2, v290.toNat]

def k0_chk63 (v281 : IVec S16 32) (v292 : IVec S16 32) : Prop :=
  (∀ a x, ((![v292, v281] : Fin 2 → IVec S16 32) a x).toNat < S4x4096.size a)
theorem k0_idx63_inb : ∀ (v281 : IVec S16 32) (v292 : IVec S16 32) (k0_hw63 : k0_chk63 v281 v292), ∀ a x, ((![v292, v281] : Fin 2 → IVec S16 32) a x).toNat < S4x4096.size a := fun v281 v292 k0_hw63 => k0_hw63
def k0_off81 (k0_t16 : Fin k0_t16_loop.trips) : Fin 2 → Nat :=
  let c1_i32_310 : BitVec 32 := 1#32
  let v294 : Index := Scalar.indexCast c1_i32_310
  let c0_i32_304 : BitVec 32 := 0#32
  let c0_i32_279 : BitVec 32 := 0#32
  let c1_i32_281 : BitVec 32 := 1#32
  let arg21 : BitVec 32 := Scf.iv c0_i32_279 c1_i32_281 k0_t16
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v295 : Index := Scalar.indexCast v279
  ![1, v295.toNat]

def k0_chk64 (v281 : IVec S16 32) (v297 : IVec S16 32) : Prop :=
  (∀ a x, ((![v297, v281] : Fin 2 → IVec S16 32) a x).toNat < S4x4096.size a)
theorem k0_idx64_inb : ∀ (v281 : IVec S16 32) (v297 : IVec S16 32) (k0_hw64 : k0_chk64 v281 v297), ∀ a x, ((![v297, v281] : Fin 2 → IVec S16 32) a x).toNat < S4x4096.size a := fun v281 v297 k0_hw64 => k0_hw64
def k0_off82 (k0_t16 : Fin k0_t16_loop.trips) : Fin 2 → Nat :=
  let c0_i32_312 : BitVec 32 := 0#32
  let v299 : Index := Scalar.indexCast c0_i32_312
  let c0_i32_304 : BitVec 32 := 0#32
  let c0_i32_279 : BitVec 32 := 0#32
  let c1_i32_281 : BitVec 32 := 1#32
  let arg21 : BitVec 32 := Scf.iv c0_i32_279 c1_i32_281 k0_t16
  let c1_i32_303 : BitVec 32 := 1#32
  let v277 : BitVec 32 := Scalar.muli arg21 c1_i32_303
  let v278 : BitVec 32 := Scalar.addi c0_i32_304 v277
  let c16_i32_305 : BitVec 32 := 16#32
  let v279 : BitVec 32 := Scalar.muli v278 c16_i32_305
  let v300 : Index := Scalar.indexCast v279
  ![0, v300.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x4096 : Shape := ⟨2, ![2048, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096, .i32⟩
  | .hbm, ⟨2, _⟩ => ⟨S2048x4096, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S2048x4096, .f32⟩
  | .hbm, ⟨22, _⟩ => ⟨S2048x4096, .i1⟩
  | .hbm, ⟨23, _⟩ => ⟨S_, .f32⟩
  | .hbm, ⟨24, _⟩ => ⟨S2048x4096, .f32⟩
  | .hbm, ⟨25, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Task.lean ====
/-
  What one vector subcore does, written as a short program.

  The printed body spells out sixteen groups of four rows one after the other. Here the same body is a recursion over
  the group: wait for the group's four source rows, (from the fourth group on) wait until the output buffer is free,
  permute the four rows into the output buffer, start the copy out, and (while rows remain) start the copy in of the
  group four ahead. `body_eq` says that the printed body is this program.
-/
module

public import proofs.«01_k».proof.Proof.Gen.KernelIdeal
public import proofs.«01_k».proof.Proof.Gen.KernelIdeal.Skeleton

@[expose] public section

noncomputable section

namespace Cert.Proof.Task

open Cert.KernelIdeal Cert.KernelIdeal.Gen
open Idealize.ShloMosaic Idealize.SL.Sem

variable {F : FTy → Type} [FloatOps F]

/-! ## The buffers and the semaphores -/

/-- The source, as a subcore sees it. -/
abbrev srcV : Memref sig .scVector .hbm S2048x4096 .f32 := Memref.whole main_arg0_scv
/-- The permutation, as a subcore sees it. -/
abbrev permV : Memref sig .scVector .hbm S4096 .i32 := Memref.whole main_arg1_scv
/-- The result, as a subcore sees it. -/
abbrev outV : Memref sig .scVector .hbm S2048x4096 .f32 := Memref.whole main_v0_scv
/-- The subcore's copy of the permutation. -/
abbrev permB : Memref sig .scVector .vmem S4096 .i32 := Memref.whole cc0_scratch0
/-- The semaphore of the permutation's copy. -/
abbrev permSem : DmaSem sig := cc0_scratch15.sem

/-- The four buffers that source rows land in, and the semaphores of the copies into them. -/
def rowBuf : Fin 4 → Memref sig .scVector .vmem S4x4096 .f32
  | 0 => Memref.whole cc0_scratch1
  | 1 => Memref.whole cc0_scratch2
  | 2 => Memref.whole cc0_scratch3
  | 3 => Memref.whole cc0_scratch4
/-- Each input buffer is a whole allocation. -/
theorem rowBuf_isWhole : ∀ j, (rowBuf j).IsWhole
  | 0 | 1 | 2 | 3 => Memref.isWhole_whole _
/-- The semaphore of each input buffer. -/
def inSem : Fin 4 → DmaSem sig
  | 0 => cc0_scratch8.sem
  | 1 => cc0_scratch9.sem
  | 2 => cc0_scratch10.sem
  | 3 => cc0_scratch11.sem

/-- The three buffers that output rows leave from, and the semaphores of the copies out of them. -/
def outBuf : Fin 3 → Memref sig .scVector .vmem S4x4096 .f32
  | 0 => Memref.whole cc0_scratch5
  | 1 => Memref.whole cc0_scratch6
  | 2 => Memref.whole cc0_scratch7
/-- Each output buffer is a whole allocation. -/
theorem outBuf_isWhole : ∀ j, (outBuf j).IsWhole
  | 0 | 1 | 2 => Memref.isWhole_whole _
/-- The semaphore of each output buffer. -/
def outSem : Fin 3 → DmaSem sig
  | 0 => cc0_scratch12.sem
  | 1 => cc0_scratch13.sem
  | 2 => cc0_scratch14.sem

/-- The input buffer of group `n`. -/
def slot4 (n : ℕ) : Fin 4 := ⟨n % 4, Nat.mod_lt _ (by decide)⟩
/-- The output buffer of group `n`. -/
def slot3 (n : ℕ) : Fin 3 := ⟨n % 3, Nat.mod_lt _ (by decide)⟩

/-! ## The operations -/

section

variable (i : grid0.Coords)

/-- Programs of the vector subcore at grid point `i`. -/
abbrev Pr (α : Type) : Type 1 :=
  Prog (TpuEff nD τ sig (Elt F) Λ₀ (.scVector ((i 0).castLE hcore0) ((i 1).castLE hsub0))) α

/-- The four source rows group `g` reads. -/
abbrev srcBlk (g : Fin 16) : Memref sig .scVector .hbm S4x4096 .f32 :=
  srcV.slice (Rect.unit (s := S2048x4096) (k0_off1 i (BitVec.ofNat 32 (4 * g.val))) S4x4096.size (k0_off1_inb i g)) (fun _ => rfl)
/-- The four result rows of group `g`. -/
abbrev outBlk (g : Fin 16) : Memref sig .scVector .hbm S4x4096 .f32 :=
  outV.slice (Rect.unit (s := S2048x4096) (k0_off7 i (BitVec.ofNat 32 (4 * g.val))) S4x4096.size (k0_off7_inb i g)) (fun _ => rfl)

/-- Start the copy of the permutation in. -/
def startPerm : Pr (F := F) i PUnit :=
  Prog.lift (.enqueueDma permV (.here permB) (.dma permSem) (Memref.isWhole_whole _).wordExact (Memref.isWhole_whole _).wordExact
    ⟨Or.inl rfl, trivial⟩)
/-- Wait for the permutation. -/
def waitPerm : Pr (F := F) i PUnit :=
  Prog.lift (.waitDma2 permSem permV permB (Memref.isWhole_whole _).wordExact (Memref.isWhole_whole _).wordExact)
/-- Start the copy of group `g` into input buffer `j`. -/
def startIn (g : Fin 16) (j : Fin 4) : Pr (F := F) i PUnit :=
  Prog.lift (.enqueueDma (srcBlk i g) (.here (rowBuf j)) (.dma (inSem j)) (View.wordExact_bits rfl) (rowBuf_isWhole j).wordExact
    ⟨Or.inl rfl, trivial⟩)
/-- Wait for group `g` in input buffer `j`. -/
def waitIn (g : Fin 16) (j : Fin 4) : Pr (F := F) i PUnit :=
  Prog.lift (.waitDma2 (inSem j) (srcBlk i g) (rowBuf j) (View.wordExact_bits rfl) (rowBuf_isWhole j).wordExact)
/-- Start the copy of output buffer `j` to group `g` of the result. -/
def startOut (g : Fin 16) (j : Fin 3) : Pr (F := F) i PUnit :=
  Prog.lift (.enqueueDma (outBuf j) (.here (outBlk i g)) (.dma (outSem j)) (outBuf_isWhole j).wordExact (View.wordExact_bits rfl)
    ⟨Or.inl rfl, trivial⟩)
/-- Wait until output buffer `j` has gone out to group `g`. -/
def waitOut (g : Fin 16) (j : Fin 3) : Pr (F := F) i PUnit :=
  Prog.lift (.waitDma2 (outSem j) (outBuf j) (outBlk i g) (outBuf_isWhole j).wordExact (View.wordExact_bits rfl))

/-- Sixteen columns of one row: check that the sixteen column numbers `v` are in range, fetch row `r` of `rb` at them,
    and store the sixteen values at offset `off` of `ob`. -/
def rowStep (rb ob : Memref sig .scVector .vmem S4x4096 .f32) (v : IVec S16 32) (r : BitVec 32) (off : Fin 2 → ℕ)
    (inb : ∀ a, off a + S1x16.size a ≤ S4x4096.size a) : Pr (F := F) i PUnit := do
  let h ← Prog.lift (TpuEff.assume (k0_chk1 v (broadcast S16 r)) (k0_chk1.dec v (broadcast S16 r)))
  let w : Vec F S16 .f32 ← SparseCore.vectorLoadIdx rb ![broadcast S16 r, v] (k0_idx1_inb v (broadcast S16 r) h.down) (View.loads_vmem h_S4x4096)
  let _ ← Prog.lift (.load ob (Rect.unit (s := S4x4096) off S1x16.size inb).toLoadRect (View.loadsAt_vmem h_S1x16))
  Prog.lift (.store ob (Rect.unit (s := S4x4096) off S1x16.size inb) (shapeCast S1x16 w shapeCasts_S16_S1x16) Finset.univ
    (View.stores_vmem_bits_univ h_S1x16 rfl) (.inl rfl))

/-- Trip `k` of the permuting loop: columns `16 k … 16 k + 15` of the four rows, the rows in reversed order. -/
def trip (rb ob : Memref sig .scVector .vmem S4x4096 .f32) (k : Fin k0_t1_loop.trips) : Pr (F := F) i PUnit := do
  let v : Vec F S16 .i32 ← Prog.lift (.load permB (Rect.unit (s := S4096) (k0_off2 k) S16.size (k0_off2_inb k)).toLoadRect (View.loadsAt_vmem h_S16))
  rowStep i rb ob v 0#32 (k0_off3 k) (k0_off3_inb k)
  rowStep i rb ob v 1#32 (k0_off4 k) (k0_off4_inb k)
  rowStep i rb ob v 2#32 (k0_off5 k) (k0_off5_inb k)
  rowStep i rb ob v 3#32 (k0_off6 k) (k0_off6_inb k)

/-- The permuting loop, 256 trips. -/
def permute (rb ob : Memref sig .scVector .vmem S4x4096 .f32) : Pr (F := F) i PUnit :=
  Scf.Loop.for k0_t1_loop k0_t1_ok ⟨⟩ fun k _ => trip i rb ob k

/-- From the fourth group on, wait until group `n - 3`'s result rows have left the output buffer group `n` uses. -/
def freeOut (n : ℕ) (h : n < 16) : Pr (F := F) i PUnit :=
  if 3 ≤ n then waitOut i ⟨n - 3, by omega⟩ (slot3 n) else pure ⟨⟩
/-- Start fetching group `n + 4`'s source rows, if there is such a group. -/
def refill (n : ℕ) : Pr (F := F) i PUnit :=
  if h' : n + 4 < 16 then startIn i ⟨n + 4, h'⟩ (slot4 n) else pure ⟨⟩

/-- Group `n`. -/
def group (n : ℕ) (h : n < 16) : Pr (F := F) i PUnit := do
  waitIn i ⟨n, h⟩ (slot4 n)
  freeOut i n h
  permute i (rowBuf (slot4 n)) (outBuf (slot3 n))
  startOut i ⟨n, h⟩ (slot3 n)
  refill i n

/-- The first `n` groups. -/
def groups : (n : ℕ) → n ≤ 16 → Pr (F := F) i PUnit
  | 0, _ => pure ⟨⟩
  | n + 1, h => do
    groups n (Nat.le_of_succ_le h)
    group i n h

/-- Everything the subcore does. -/
def body : Pr (F := F) i PUnit := do
  startPerm i
  startIn i 0 0
  startIn i 1 1
  startIn i 2 2
  startIn i 3 3
  waitPerm i
  groups i 16 le_rfl
  waitOut i 13 1
  waitOut i 14 2
  waitOut i 15 0

set_option maxHeartbeats 4000000 in
/-- The printed body, at the buffers the launch gives it, is the program above. -/
theorem body_eq : (cc0__decoder_body i srcV (Memref.isWhole_whole _) permV (Memref.isWhole_whole _) outV (Memref.isWhole_whole _)
      permB (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) cc0_scratch8 cc0_scratch9 cc0_scratch10 cc0_scratch11 cc0_scratch12
      cc0_scratch13 cc0_scratch14 cc0_scratch15 : Pr (F := F) i PUnit) = body i := by
  rw [cc0__decoder_body_eq_skeleton]; unfold cc0__decoder_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [body, groups, group, freeOut, refill, bind_assoc, pure_bind, Nat.reduceAdd, Nat.reduceLeDiff,
    Nat.reduceLT, Nat.reduceSub, ↓reduceIte, ↓reduceDIte]
  rfl

end

end Cert.Proof.Task

end
-- ==== Proof.Base.lean ====
/-
  The setting the proof works in: the kernel's launch as the launch theorem sees it, the resources the proof may hold,
  and the one assertion used everywhere — a buffer held whole, its contents known. The kernel's second argument, the column numbers, is called the permutation
  throughout, though nothing asks that it name a column only once.
-/
module

public import proofs.«01_k».proof.Defs
public import proofs.«01_k».proof.Proof.Task
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Transfers
public import Idealize.ShloMosaic.Lib.WritesUnit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The configuration is well formed: what the launch theorem asks of it holds by computation. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resources: the launch's handshakes beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A subcore and its buffers -/

/-- The vector subcore at grid point `i` of device `d`. -/
abbrev thr (d : Dev nD) (i : grid0.Coords) : Thread nD τ := V d ((i 0).castLE hcore0) ((i 1).castLE hsub0)

section

variable {sp : Space} {s : Shape} {e : EltTy}

/-- The view `m` of subcore `t` is held in full, and reads `X`. -/
abbrev Holds (t : Thread nD τ) (m : Memref sig t.2.kind sp s e) (X : s.Idx → Elt F e) : sProp 𝕄 :=
  iprop(∃ f, ⌜m.view.read (Elt F) f = X⌝ ∗ m.view.loc t ↦[m.view.set]{fullShare} f)

/-- The view `m` of subcore `t` is held in full, whatever it reads. -/
abbrev HoldsAny (t : Thread nD τ) (m : Memref sig t.2.kind sp s e) : sProp 𝕄 :=
  iprop(∃ f : Buf (Elt F) (m.view.loc t), m.view.loc t ↦[m.view.set]{fullShare} f)

/-- A buffer whose contents are known is in particular a buffer held whole, whatever it contains. -/
theorem Holds.any {t : Thread nD τ} {m : Memref sig t.2.kind sp s e} {X : s.Idx → Elt F e} :
    (Holds t m X : sProp 𝕄) ⊢ HoldsAny t m := by
  unfold Holds HoldsAny
  iintro ⟨%f, -, H⟩
  iexists f; iexact H

end

/-! ## What the kernel computes on a block of four rows -/

/-- Column `c`, as an index of the permutation. -/
def col (c : Fin 4096) : S4096.Idx
  | 0 => c

/-- Four rows in reversed order, each taken at the columns `P` names. -/
def perm4 {α : Type} (X : S4x4096.Idx → α) (P : S4096.Idx → BitVec 32) (hP : ∀ j, (P j).toNat < 4096) : S4x4096.Idx → α :=
  fun y => X (fun
    | 0 => ⟨3 - (y 0).val, by show _ < 4; omega⟩
    | 1 => ⟨(P (col (y 1))).toNat, hP _⟩)

end Cert.Proof

end
-- ==== Proof.Trip.lean ====
/-
  The permuting loop: from four source rows in one buffer and the permutation in another, the output buffer ends with
  the four rows in reversed order, each taken at the permutation's columns.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Task

variable {F : FTy → Type} [FloatOps F]

local notation "𝕄" => MT nD τ sig (HIx 1) (Elt F) ℕ UU ℕ

/-! ## The values of one trip -/

section Values

variable {X : Vec F S4x4096 .f32} {P : S4096.Idx → BitVec 32} (hP : ∀ j, (P j).toNat < 4096)

/-- The sixteen column numbers of trip `k`. -/
def cols (P : S4096.Idx → BitVec 32) (k : Fin k0_t1_loop.trips) : IVec S16 32 :=
  fun x => P ((Rect.unit (s := S4096) (k0_off2 k) S16.size (k0_off2_inb k)).emb x)

include hP in
/-- Every check passes: a row number below 4, and column numbers below 4096. -/
theorem chk_cols (k : Fin k0_t1_loop.trips) (r : ℕ) (hr : r < 4) : k0_chk1 (cols P k) (broadcast S16 (BitVec.ofNat 32 r)) := by
  intro a x
  match a with
  | 0 =>
    show (BitVec.ofNat 32 r).toNat < 4
    rw [BitVec.toNat_ofNat]; omega
  | 1 => exact hP _

/-- What is stored from row `r` in trip `k` is the result's row `3 - r`, at the trip's sixteen columns. -/
theorem stored_eq (k : Fin k0_t1_loop.trips) (r : ℕ) (hr : r < 4) (off : Fin 2 → ℕ) (inb : ∀ a, off a + S1x16.size a ≤ S4x4096.size a)
    (hoff : off = ![3 - r, 16 * k.val]) (h : ∀ a x, ((![broadcast S16 (BitVec.ofNat 32 r), cols P k] : Fin 2 → IVec S16 32) a x).toNat < S4x4096.size a)
    (x : (Rect.unit (s := S4x4096) off S1x16.size inb).shape.Idx) :
    shapeCast S1x16 (loadIdx X ![broadcast S16 (BitVec.ofNat 32 r), cols P k] h) shapeCasts_S16_S1x16 x
      = perm4 X P hP ((Rect.unit (s := S4x4096) off S1x16.size inb).emb x) := by
  subst hoff
  refine (shapeCast_addUnit_apply (![16]) _ _ _).trans ?_
  unfold loadIdx perm4
  congr 1
  funext a
  have hx0 : (x 0).val = 0 := by have := (x 0).isLt; change _ < 1 at this; omega
  match a with
  | 0 =>
    apply Fin.ext
    show (BitVec.ofNat 32 r).toNat = 3 - (3 - r + 1 * (x 0).val)
    rw [BitVec.toNat_ofNat]; omega
  | 1 =>
    apply Fin.ext
    show (P _).toNat = (P _).toNat
    congr 2
    funext b
    match b with
    | 0 =>
      apply Fin.ext
      show k0_off2 k 0 + 1 * (x 1).val = 16 * k.val + 1 * (x 1).val
      rw [k0_off2_eq]; rfl

/-- After trip `k` the output buffer agrees with the result on sixteen more columns. -/
theorem trip_reads {sp : Space} (ob : Memref sig .scVector sp S4x4096 .f32) (f : ob.view.ty.Contents (Elt F)) (k : Fin k0_t1_loop.trips)
    {L : List (View.Piece (Elt F) S4x4096 .f32)}
    (hval : ∀ p ∈ L, ∀ x, p.2 x = perm4 X P hP (p.1.emb x))
    (hmem : ∀ y : S4x4096.Idx, (∃ p ∈ L, y ∈ p.1.set) ↔ 16 * k.val ≤ (y 1).val ∧ (y 1).val < 16 * (k.val + 1))
    (hf : ∀ y : S4x4096.Idx, (y 1).val < 16 * k.val → ob.view.read (Elt F) f y = perm4 X P hP y)
    (y : S4x4096.Idx) (hy : (y 1).val < 16 * (k.val + 1)) : ob.view.read (Elt F) (ob.view.writes (Elt F) f L) y = perm4 X P hP y := by
  by_cases h : 16 * k.val ≤ (y 1).val
  · exact View.read_writes_apply_of_pieces _ _ _ L hval y ((hmem y).mpr ⟨h, hy⟩)
  · rw [View.read_writes_apply_of_forall_not_mem _ _ _ L fun p hp hy' => h ((hmem y).mp ⟨p, hp, hy'⟩).1]
    exact hf y (by omega)

end Values

/-! ## The steps -/

section Steps

variable (d : Dev nD) (i : grid0.Coords)

/-- The weakest precondition of a program of the subcore at `i`. -/
abbrev wpT {α : Type} (p : Pr (F := F) i α) (Q : α → sProp 𝕄) : sProp 𝕄 :=
  wp frame (wpE (defs₀ (F := F)) 𝒱₀ (thr d i) none) Set.univ p Q

variable {rb ob : Memref sig .scVector .vmem S4x4096 .f32} {kk : PUnit.{1} → Pr (F := F) i PUnit}

/-- One row's sixteen columns: the row buffer is read, the output buffer gets one more write. -/
theorem rowStep_wp {X : Vec F S4x4096 .f32} {v : IVec S16 32} {r : BitVec 32} (hc : k0_chk1 v (broadcast S16 r)) (off : Fin 2 → ℕ)
    (inb : ∀ a, off a + S1x16.size a ≤ S4x4096.size a) {fo : Buf (Elt F) (ob.view.loc (thr d i))} {L : List (View.Piece (Elt F) S4x4096 .f32)}
    {Q : PUnit.{1} → sProp 𝕄} :
    iprop(Holds (thr d i) rb X ∗ ob.view.loc (thr d i) ↦[ob.view.set]{fullShare} ob.view.writes (Elt F) fo L)
      ⊢ iprop((iprop(Holds (thr d i) rb X ∗ ob.view.loc (thr d i) ↦[ob.view.set]{fullShare} ob.view.writes (Elt F) fo
              (⟨Rect.unit (s := S4x4096) off S1x16.size inb, shapeCast S1x16 (loadIdx X ![broadcast S16 r, v] (k0_idx1_inb v _ hc)) shapeCasts_S16_S1x16⟩ :: L))
            -∗ wpT (F := F) d i (kk ⟨⟩) Q)
          -∗ wpT (F := F) d i (rowStep i rb ob v r off inb >>= kk) Q) := by
  unfold rowStep Holds wpT
  simp only [Prog.lift, Prog.bind_op, Prog.bind_ret, bind_assoc]
  iintro ⟨⟨%fr, %hfr, Hr⟩, Ho⟩ Hk
  have hrd : (rb.access (.whole S4x4096)).read (Elt F) fr = X := by
    rw [← hfr]; funext x; exact congrArg (rb.view.read (Elt F) fr) (Rect.emb_whole_apply _ x)
  rw [wp_assume_of _ _ _ _ hc]
  iapply (SparseCore.wp_vectorLoadIdx 𝒱₀ (thr d i) none Set.univ (base := rb) (S := rb.view.set) (q := fullShare)
    (View.set_slice_subset _ _)) $$ Hr
  iintro Hr
  rw [hrd]
  iapply (wp_load 𝒱₀ (thr d i) none Set.univ (m := ob) (S := ob.view.set) (View.setOn_subset_set _ _)) $$ Ho
  iintro Ho
  iapply (wp_store_writes 𝒱₀ (thr d i) none Set.univ (m := ob) (S := ob.view.set) (View.set_slice_subset _ _)) $$ Ho
  iintro Ho
  iapply Hk
  isplitl [Hr]
  · iexists fr; isplitr; · ipureintro; exact hfr
    iexact Hr
  · iexact Ho

variable {X : Vec F S4x4096 .f32} {P : S4096.Idx → BitVec 32} (hP : ∀ j, (P j).toNat < 4096)

/-- Before trip `k`: the permutation and the four source rows are there, and the output buffer agrees with the result on
    its first `16 k` columns. -/
abbrev TripInv (rb ob : Memref sig .scVector .vmem S4x4096 .f32) (X : Vec F S4x4096 .f32) (k : ℕ) (_ : PUnit.{1}) : sProp 𝕄 :=
  iprop(Holds (F := F) (thr d i) permB P ∗ Holds (thr d i) rb X
    ∗ ∃ f, ⌜∀ y : S4x4096.Idx, (y 1).val < 16 * k → ob.view.read (Elt F) f y = perm4 X P hP y⌝ ∗ ob.view.loc (thr d i) ↦[ob.view.set]{fullShare} f)

/-- Trip `k` of the loop. -/
theorem trip_wp (k : Fin k0_t1_loop.trips) (u : PUnit.{1}) :
    TripInv d i hP rb ob X k.val u ⊢ wpT (F := F) d i (trip i rb ob k) (TripInv d i hP rb ob X (k.val + 1)) := by
  unfold trip wpT
  simp only [Prog.lift, Prog.bind_op, Prog.bind_ret]
  iintro ⟨⟨%fp, %hfp, Hp⟩, Hr, %f, %hf, Ho⟩
  iapply (wp_load 𝒱₀ (thr d i) none Set.univ (m := permB) (S := permB.view.set) (View.setOn_subset_set _ _)) $$ Hp
  iintro Hp
  rw [show permB.view.readAt (Elt F) (Rect.unit (s := S4096) (k0_off2 k) S16.size (k0_off2_inb k)).toLoadRect fp = cols P k by rw [← hfp]; rfl]
  iapply (rowStep_wp d i (fo := f) (L := []) (chk_cols hP k 0 (by decide)) _ _) $$ [Hr Ho]
  · isplitl [Hr]; · iexact Hr
    iexact Ho
  iintro H
  iapply (rowStep_wp d i (chk_cols hP k 1 (by decide)) _ _) $$ H
  iintro H
  iapply (rowStep_wp d i (chk_cols hP k 2 (by decide)) _ _) $$ H
  iintro H
  rw [← bind_pure (rowStep i rb ob _ 3#32 _ _)]
  iapply (rowStep_wp d i (chk_cols hP k 3 (by decide)) _ _) $$ H
  iintro ⟨Hr, Ho⟩
  unfold wpT; rw [Prog.pure_eq_ret, wp_ret]; imodintro
  isplitl [Hp]
  · iexists fp; isplitr; · ipureintro; exact hfp
    iexact Hp
  isplitl [Hr]; · iexact Hr
  iexists _
  isplitr
  rotate_left
  · iexact Ho
  ipureintro
  refine trip_reads hP ob f k ?_ ?_ hf
  · intro p hp
    simp only [List.mem_cons, List.not_mem_nil, _root_.or_false] at hp
    rcases hp with rfl | rfl | rfl | rfl
    · exact stored_eq hP k 3 (by decide) _ (k0_off6_inb k) (k0_off6_eq k) _
    · exact stored_eq hP k 2 (by decide) _ (k0_off5_inb k) (k0_off5_eq k) _
    · exact stored_eq hP k 1 (by decide) _ (k0_off4_inb k) (k0_off4_eq k) _
    · exact stored_eq hP k 0 (by decide) _ (k0_off3_inb k) (k0_off3_eq k) _
  · intro y
    have hy0 : (y 0).val < 4 := (y 0).isLt
    simp only [List.mem_cons, List.not_mem_nil, _root_.or_false, exists_eq_or_imp, exists_eq_left, Rect.mem_set_unit, k0_off3_eq, k0_off4_eq,
      k0_off5_eq, k0_off6_eq, Fin.forall_fin_two]
    simp
    omega

/-- The whole loop. -/
theorem permute_wp {kk : PUnit.{1} → Pr (F := F) i PUnit} {Q : PUnit.{1} → sProp 𝕄} :
    iprop(Holds (F := F) (thr d i) permB P ∗ Holds (thr d i) rb X ∗ HoldsAny (thr d i) ob)
      ⊢ iprop((iprop(Holds (F := F) (thr d i) permB P ∗ Holds (thr d i) rb X ∗ Holds (thr d i) ob (perm4 X P hP)) -∗ wpT (F := F) d i (kk ⟨⟩) Q)
          -∗ wpT (F := F) d i (permute i rb ob >>= kk) Q) := by
  unfold permute
  iintro ⟨Hp, Hr, %f, Ho⟩ Hk
  iapply (Scf.wp_for_bind frame (wpE (defs₀ (F := F)) 𝒱₀ (thr d i) none) Set.univ _ _ _ _ _ _ (TripInv d i hP rb ob X)
    (trip_wp d i hP)) $$ [Hp Hr Ho]
  · isplitl [Hp]; · iexact Hp
    isplitl [Hr]; · iexact Hr
    iexists f; isplitr
    · ipureintro; intro y hy; omega
    · iexact Ho
  iintro %u ⟨Hp, Hr, %g, %hg, Ho⟩
  iapply Hk
  isplitl [Hp]; · iexact Hp
  isplitl [Hr]; · iexact Hr
  iexists g; isplitr
  · ipureintro; funext y
    exact hg y (by have := (y 1).isLt; exact this)
  · iexact Ho

end Steps

end Cert.Proof

end
-- ==== Proof.Tile.lean ====
/-
  One subcore's work. Four copies in and up to three copies out are under way while a group is permuted; what is held
  before group `n` has the same form for every `n`, so a group is proved once and the sixteen follow by induction.
-/
module

public import proofs.«01_k».proof.Proof.Trip

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (Flight)
open Idealize.SL Idealize.SL.RA Idealize.SL.BI
open scoped Idealize.SL.BI
open Idealize.SL.BI.BIBase Idealize.SL.BI.Laws Idealize.SL.ProofMode Idealize.SL.Sem
open Cert.Proof.Task

variable {F : FTy → Type} [FloatOps F]

local notation "𝕄" => MT nD τ sig (HIx 1) (Elt F) ℕ UU ℕ

/-! ## The values -/

/-- The rows of `X` in reversed order, each taken at the columns `P` names. -/
def rows {α : Type} (X : S2048x4096.Idx → α) (P : S4096.Idx → BitVec 32) (hP : ∀ j, (P j).toNat < 4096) : S2048x4096.Idx → α :=
  fun y => X (fun
    | 0 => ⟨2047 - (y 0).val, by show _ < 2048; omega⟩
    | 1 => ⟨(P (col (y 1))).toNat, hP _⟩)

variable (d : Dev nD) (i : grid0.Coords) (X : S2048x4096.Idx → Elt F .f32) {P : S4096.Idx → BitVec 32} (hP : ∀ j, (P j).toNat < 4096)

/-- Group `g`'s four source rows. -/
def srcRows (g : Fin 16) : S4x4096.Idx → Elt F .f32 := (srcBlk i g).view.read (Elt F) X

/-- Permuted, group `g`'s source rows are the result's rows at the group's place in the output. -/
theorem outRows (g : Fin 16) : (outBlk i g).view.read (Elt F) (rows X P hP) = perm4 (srcRows i X g) P hP := by
  funext y
  have h0 := (i 0).isLt
  have h1 := (i 1).isLt
  show X _ = X _
  congr 1
  funext a
  match a with
  | 0 =>
    apply Fin.ext
    show 2047 - (k0_off7 i (BitVec.ofNat 32 (4 * g.val)) 0 + 1 * (y 0).val) = k0_off1 i (BitVec.ofNat 32 (4 * g.val)) 0 + 1 * (3 - (y 0).val)
    rw [k0_off7_eq, k0_off1_eq]
    have hy : (y 0).val < 4 := (y 0).isLt
    have h0' : (i 0).val < 2 := h0
    have h1' : (i 1).val < 16 := h1
    simp only [Matrix.cons_val_zero]
    omega
  | 1 =>
    apply Fin.ext
    show (P (col _)).toNat = k0_off1 i (BitVec.ofNat 32 (4 * g.val)) 1 + 1 * (P (col (y 1))).toNat
    rw [k0_off1_eq]
    simp only [Matrix.cons_val_one, Matrix.cons_val_fin_one, Nat.zero_add, Nat.one_mul]
    congr 2
    refine congrArg col (Fin.ext ?_)
    have h7 : k0_off7 i (BitVec.ofNat 32 (4 * g.val)) 1 = 0 := by rw [k0_off7_eq]; rfl
    show k0_off7 i (BitVec.ofNat 32 (4 * g.val)) 1 + 1 * (y 1).val = (y 1).val
    omega

/-! ## The blocks and the copies -/

/-- Group `g`'s block of the source, held in full. -/
abbrev SrcB (g : Fin 16) : sProp 𝕄 := iprop((srcBlk i g).view.loc (thr d i) ↦[(srcBlk i g).view.set]{fullShare} X)
/-- Group `g`'s block of the output, held in full. -/
abbrev OutB (Y : S2048x4096.Idx → Elt F .f32) (g : Fin 16) : sProp 𝕄 :=
  iprop((outBlk i g).view.loc (thr d i) ↦[(outBlk i g).view.set]{fullShare} Y)
/-- The permutation, held at share `q`. -/
abbrev PermQ (q : PosShare TreeShare) (P : S4096.Idx → BitVec 32) : sProp 𝕄 :=
  iprop(permV.view.loc (thr d i) ↦[permV.view.set]{q} (P : S4096.Idx → Elt F .i32))
/-- The semaphore `sm`, at zero. -/
abbrev Idle (sm : DmaSem sig) : sProp 𝕄 := iprop(semVal (thr d i, SemLoc.dma sm) 0)

/-- The copy of group `g`'s source rows into buffer `j`, under way. -/
abbrev InFl (g : Fin 16) (j : Fin 4) : sProp 𝕄 :=
  Flight EC (thr d i) (.dma (inSem j)) none (rowBuf j).view.dmaCredit iprop(Holds (thr d i) (rowBuf j) (srcRows i X g) ∗ SrcB d i X g)
/-- The copy of group `g`'s result rows out of buffer `j`, under way. -/
abbrev OutFl (g : Fin 16) (j : Fin 3) : sProp 𝕄 :=
  Flight EC (thr d i) (.dma (outSem j)) none (outBlk i g).view.dmaCredit
    iprop(OutB d i (rows X P hP) g ∗ HoldsAny (F := F) (thr d i) (outBuf j))
/-- The copy of the permutation, under way. -/
abbrev PermFl (q : PosShare TreeShare) (P : S4096.Idx → BitVec 32) : sProp 𝕄 :=
  Flight EC (thr d i) (.dma permSem) none permB.view.dmaCredit iprop(Holds (F := F) (thr d i) permB P ∗ PermQ d i q P)

section Copies

omit [FloatOps F] in
/-- A view just written in full reads what was written. -/
theorem landed {t : Thread nD τ} {sp : Space} {s : Shape} {e : EltTy} {m : Memref sig t.2.kind sp s e} {f : Buf (Elt F) (m.view.loc t)}
    {w : s.Idx → Elt F e} :
    (iprop(m.view.loc t ↦[m.view.set]{fullShare} m.view.write (Elt F) f w Finset.univ) : sProp 𝕄) ⊢ Holds t m w := by
  iintro H
  iexists _; isplitr
  · ipureintro; exact View.read_write_univ f w
  · iexact H

/-- An output block just written with group `g`'s result rows holds the result. -/
theorem landedOut {g : Fin 16} {Y : S2048x4096.Idx → Elt F .f32} {w : S4x4096.Idx → Elt F .f32} (hw : w = perm4 (srcRows i X g) P hP) :
    (iprop((outBlk i g).view.loc (thr d i) ↦[(outBlk i g).view.set]{fullShare} (outBlk i g).view.write (Elt F) Y w Finset.univ) : sProp 𝕄)
      ⊢ OutB d i (rows X P hP) g := by
  have hc : ∀ x ∈ (outBlk i g).view.set, (outBlk i g).view.write (Elt F) Y w Finset.univ x = rows X P hP x := by
    intro x hx
    obtain ⟨y, -, rfl⟩ := Finset.mem_map.mp hx
    refine (View.write_emb_of_mem _ _ (Finset.mem_univ y)).trans ?_
    rw [hw, ← outRows]
    rfl
  exact BIBase.Entails.of_eq (pointsTo_congr hc)

/-- Starting the copy of the permutation puts it in flight. -/
theorem startPerm_wp {q : PosShare TreeShare} {kk : PUnit.{1} → Pr (F := F) i PUnit} {Q : PUnit.{1} → sProp 𝕄} :
    iprop(PermQ (F := F) d i q P ∗ HoldsAny (F := F) (thr d i) permB ∗ Idle d i permSem)
      ⊢ iprop((PermFl d i q P -∗ wpT (F := F) d i (kk ⟨⟩) Q) -∗ wpT (F := F) d i (startPerm i >>= kk) Q) := by
  iintro ⟨Hs, ⟨%f, Hd⟩, Hv⟩ Hk
  unfold startPerm wpT
  simp only [Prog.lift, Prog.bind_op, Prog.bind_ret]
  iapply (Transfers.wp_dmaLocal EC 𝒱₀ (thr d i) none (via := .same) none permB.view.dmaCredit rfl
    (View.dmaCredit_pos _ (by decide)) (Finset.Subset.refl _)) $$ [Hs Hd Hv]
  · isplitl [Hs]; · iexact Hs
    isplitl [Hd]; · iexact Hd
    iexact Hv
  iintro HF
  iapply Hk
  iapply (Transfers.Flight_mono EC (thr d i) (sep_mono landed .rfl)) $$ HF

/-- Starting a copy in puts the group in flight towards its input buffer. -/
theorem startIn_wp {g : Fin 16} {j : Fin 4} {kk : PUnit.{1} → Pr (F := F) i PUnit} {Q : PUnit.{1} → sProp 𝕄} :
    iprop(SrcB d i X g ∗ HoldsAny (F := F) (thr d i) (rowBuf j) ∗ Idle d i (inSem j))
      ⊢ iprop((InFl d i X g j -∗ wpT (F := F) d i (kk ⟨⟩) Q) -∗ wpT (F := F) d i (startIn i g j >>= kk) Q) := by
  iintro ⟨Hs, ⟨%f, Hd⟩, Hv⟩ Hk
  unfold startIn wpT
  simp only [Prog.lift, Prog.bind_op, Prog.bind_ret]
  iapply (Transfers.wp_dmaLocal EC 𝒱₀ (thr d i) none (via := .same) none (rowBuf j).view.dmaCredit rfl
    (View.dmaCredit_pos _ (by decide)) (Finset.Subset.refl _)) $$ [Hs Hd Hv]
  · isplitl [Hs]; · iexact Hs
    isplitl [Hd]; · iexact Hd
    iexact Hv
  iintro HF
  iapply Hk
  iapply (Transfers.Flight_mono EC (thr d i) (sep_mono landed .rfl)) $$ HF

/-- Starting a copy out puts the output buffer in flight towards its rows of the result. -/
theorem startOut_wp {g : Fin 16} {j : Fin 3} {Y : S2048x4096.Idx → Elt F .f32}
    {kk : PUnit.{1} → Pr (F := F) i PUnit} {Q : PUnit.{1} → sProp 𝕄} :
    iprop(OutB d i Y g ∗ Holds (F := F) (thr d i) (outBuf j) (perm4 (srcRows i X g) P hP) ∗ Idle d i (outSem j))
      ⊢ iprop((OutFl d i X hP g j -∗ wpT (F := F) d i (kk ⟨⟩) Q) -∗ wpT (F := F) d i (startOut i g j >>= kk) Q) := by
  iintro ⟨Hd, ⟨%f, %hf, Hs⟩, Hv⟩ Hk
  unfold startOut wpT
  simp only [Prog.lift, Prog.bind_op, Prog.bind_ret]
  iapply (Transfers.wp_dmaLocal EC 𝒱₀ (thr d i) none (via := .same) none (outBlk i g).view.dmaCredit rfl
    (View.dmaCredit_pos _ (by decide)) (Finset.Subset.refl _)) $$ [Hs Hd Hv]
  · isplitl [Hs]; · iexact Hs
    isplitl [Hd]; · iexact Hd
    iexact Hv
  iintro HF
  iapply Hk
  iapply (Transfers.Flight_mono EC (thr d i) (sep_mono (landedOut d i X hP hf) (exists_intro f))) $$ HF

/-- What the subcore still owes, its waits being on its own semaphores alone. -/
abbrev Owes (O : CellTallies nD τ sig (HIx 1)) (W : Waits sig (HIx 1)) : sProp 𝕄 :=
  iprop(∃ W', ⌜∀ p ∈ W', p ∈ W ∨ p.2 = none⌝ ∗ owes (thr d i) O W')

variable {O : CellTallies nD τ sig (HIx 1)} {W : Waits sig (HIx 1)} (hO : ∀ g, O g none = 0)

include hO in
/-- Waiting for a copy: what it brings is held, and its semaphore is at zero again. -/
theorem wait_wp {sp sp' : Space} {s s' : Shape} {e e' : EltTy} {sm : DmaSem sig} {R : sProp 𝕄}
    {src : Memref sig .scVector sp' s' e'} {dst : Memref sig .scVector sp s e} {hsrc : src.view.WordExact} {hdst : dst.view.WordExact}
    {kk : PUnit.{1} → Pr (F := F) i PUnit} {Q : PUnit.{1} → sProp 𝕄} :
    iprop(levAts (K (F := F)).L (K (F := F)).lev ∗ Flight EC (thr d i) (.dma sm) none dst.view.dmaCredit R ∗ Owes d i O W)
      ⊢ iprop((iprop(R ∗ Idle d i sm ∗ Owes d i O W) -∗ wpT (F := F) d i (kk ⟨⟩) Q)
          -∗ wpT (F := F) d i (Prog.lift (.waitDma2 sm src dst hsrc hdst) >>= kk) Q) := by
  iintro ⟨Hlv, HF, %W', %hW, HO⟩ Hk
  unfold wpT
  simp only [Prog.lift, Prog.bind_op, Prog.bind_ret]
  iapply (Transfers.wp_waitLocalO EC 𝒱₀ (thr d i) none none rfl (O := O) (W := W')) $$ [Hlv HF HO]
  · isplitl [HF]; · iexact HF
    isplitl [HO]; · iexact HO
    iapply ((K (F := F)).mayWait_none (SemLoc.dma sm) hO) $$ Hlv
  iintro ⟨HR, Hv, HO⟩
  iapply Hk
  isplitl [HR]; · iexact HR
  isplitl [Hv]; · iexact Hv
  iexists (insert (SemLoc.dma sm, none) W'); isplitr [HO]
  · ipureintro
    intro p hp
    rcases Finset.mem_insert.mp hp with h | h
    · exact Or.inr (by rw [h])
    · exact hW p h
  · iexact HO

end Copies

/-! ## What is held before group `n` -/

/-- Input buffer `n % 4`: group `n`'s copy is under way, or there is no group `n` and the buffer is free. -/
def InSlot (n : ℕ) : sProp 𝕄 :=
  if h : n < 16 then InFl d i X ⟨n, h⟩ (slot4 n)
  else iprop(HoldsAny (F := F) (thr d i) (rowBuf (slot4 n)) ∗ Idle d i (inSem (slot4 n)))

/-- Output buffer `n % 3`, before group `n`: group `n - 3`'s copy is under way, or there is no such group and the buffer
    is free. -/
def OutSlot (n : ℕ) : sProp 𝕄 :=
  if h : 3 ≤ n ∧ n < 19 then OutFl d i X hP ⟨n - 3, by omega⟩ (slot3 n)
  else iprop(HoldsAny (F := F) (thr d i) (outBuf (slot3 n)) ∗ Idle d i (outSem (slot3 n)))

/-- The groups whose source rows are not under way before group `n`. -/
def atRest (n : ℕ) : Finset (Fin 16) := Finset.univ.filter fun g => g.val < n ∨ n + 4 ≤ g.val
/-- The groups still to come. -/
def toCome (n : ℕ) : Finset (Fin 16) := Finset.univ.filter fun g => n ≤ g.val
/-- The groups whose result rows have arrived. -/
def arrived (n : ℕ) : Finset (Fin 16) := Finset.univ.filter fun g => g.val + 3 < n

/-- Everything held before group `n`. -/
abbrev Inv (Y : S2048x4096.Idx → Elt F .f32) (O : CellTallies nD τ sig (HIx 1)) (W : Waits sig (HIx 1)) (n : ℕ) : sProp 𝕄 :=
  iprop(Holds (F := F) (thr d i) permB P
    ∗ (InSlot d i X n ∗ InSlot d i X (n + 1) ∗ InSlot d i X (n + 2) ∗ InSlot d i X (n + 3))
    ∗ (OutSlot d i X hP n ∗ OutSlot d i X hP (n + 1) ∗ OutSlot d i X hP (n + 2))
    ∗ bigSep (atRest n) (SrcB d i X) ∗ bigSep (toCome n) (OutB d i Y) ∗ bigSep (arrived n) (OutB d i (rows X P hP))
    ∗ Owes d i O W)

/-- Groups four apart share an input buffer. -/
theorem slot4_add (n : ℕ) : slot4 (n + 4) = slot4 n := Fin.ext (Nat.add_mod_right n 4)
/-- Groups three apart share an output buffer. -/
theorem slot3_add (n : ℕ) : slot3 (n + 3) = slot3 n := Fin.ext (Nat.add_mod_right n 3)

section Groups

variable {Y : S2048x4096.Idx → Elt F .f32} {O : CellTallies nD τ sig (HIx 1)} {W : Waits sig (HIx 1)} (hO : ∀ g, O g none = 0)

include hO in
/-- Output buffer `n % 3` made free: after the wait, if there is one, group `n - 3`'s result rows have arrived. -/
theorem freeOut_wp (n : ℕ) (hn : n < 16) {kk : PUnit.{1} → Pr (F := F) i PUnit} {Q : PUnit.{1} → sProp 𝕄} :
    iprop(levAts (K (F := F)).L (K (F := F)).lev ∗ OutSlot d i X hP n ∗ bigSep (arrived n) (OutB d i (rows X P hP)) ∗ Owes d i O W)
      ⊢ iprop((iprop((HoldsAny (F := F) (thr d i) (outBuf (slot3 n)) ∗ Idle d i (outSem (slot3 n)))
              ∗ bigSep (arrived (n + 1)) (OutB d i (rows X P hP)) ∗ Owes d i O W) -∗ wpT (F := F) d i (kk ⟨⟩) Q)
          -∗ wpT (F := F) d i (freeOut i n hn >>= kk) Q) := by
  unfold freeOut OutSlot
  by_cases h : 3 ≤ n
  · have hm : (⟨n - 3, by omega⟩ : Fin 16) ∈ arrived (n + 1) := Finset.mem_filter.mpr ⟨Finset.mem_univ _, by show n - 3 + 3 < n + 1; omega⟩
    have he : (arrived (n + 1)).erase ⟨n - 3, by omega⟩ = arrived n := by
      ext g; simp only [arrived, Finset.mem_erase, Finset.mem_filter, Finset.mem_univ, true_and, ne_eq, Fin.ext_iff]; omega
    rw [dif_pos ⟨h, by omega⟩, if_pos h, SparseCore.bigSep_erase' hm, he]
    iintro ⟨Hlv, HF, Ha, HO⟩ Hk
    unfold waitOut
    iapply (wait_wp d i hO) $$ [Hlv HF HO]
    · isplitl [Hlv]; · iexact Hlv
      isplitl [HF]; · iexact HF
      iexact HO
    iintro ⟨⟨Ho, Hb⟩, Hv, HO⟩
    iapply Hk
    isplitl [Hb Hv]
    · isplitl [Hb]; · iexact Hb
      iexact Hv
    isplitl [Ho Ha]
    · isplitl [Ho]; · iexact Ho
      iexact Ha
    iexact HO
  · have he : arrived (n + 1) = arrived n := by
      ext g; simp only [arrived, Finset.mem_filter, Finset.mem_univ, true_and]; omega
    rw [dif_neg (fun c => h c.1), if_neg h, pure_bind, he]
    iintro ⟨-, Hs, Ha, HO⟩ Hk
    iapply Hk
    isplitl [Hs]; · iexact Hs
    isplitl [Ha]; · iexact Ha
    iexact HO

/-- Input buffer `n % 4` used again: group `n`'s source rows are back, and group `n + 4`'s copy starts, if there is one. -/
theorem refill_wp (n : ℕ) (hn : n < 16) {kk : PUnit.{1} → Pr (F := F) i PUnit} {Q : PUnit.{1} → sProp 𝕄} :
    iprop((HoldsAny (F := F) (thr d i) (rowBuf (slot4 n)) ∗ Idle d i (inSem (slot4 n))) ∗ SrcB d i X ⟨n, hn⟩ ∗ bigSep (atRest n) (SrcB d i X))
      ⊢ iprop((iprop(InSlot d i X (n + 4) ∗ bigSep (atRest (n + 1)) (SrcB d i X)) -∗ wpT (F := F) d i (kk ⟨⟩) Q)
          -∗ wpT (F := F) d i (refill i n >>= kk) Q) := by
  unfold refill InSlot
  have hm : (⟨n, hn⟩ : Fin 16) ∈ atRest (n + 1) := Finset.mem_filter.mpr ⟨Finset.mem_univ _, Or.inl (Nat.lt_succ_self n)⟩
  rw [slot4_add, SparseCore.bigSep_erase' hm]
  by_cases h : n + 4 < 16
  · have hm' : (⟨n + 4, h⟩ : Fin 16) ∈ atRest n := Finset.mem_filter.mpr ⟨Finset.mem_univ _, Or.inr le_rfl⟩
    have he : (atRest n).erase ⟨n + 4, h⟩ = (atRest (n + 1)).erase ⟨n, hn⟩ := by
      ext g; simp only [atRest, Finset.mem_erase, Finset.mem_filter, Finset.mem_univ, true_and, ne_eq, Fin.ext_iff]; omega
    rw [dif_pos h, dif_pos h, SparseCore.bigSep_erase' hm', he]
    iintro ⟨⟨Hb, Hv⟩, Hs, Hn, Hr⟩ Hk
    iapply (startIn_wp d i X) $$ [Hb Hv Hn]
    · isplitl [Hn]; · iexact Hn
      isplitl [Hb]; · iexact Hb
      iexact Hv
    iintro HF
    iapply Hk
    isplitl [HF]; · iexact HF
    isplitl [Hs]; · iexact Hs
    iexact Hr
  · have he : (atRest (n + 1)).erase ⟨n, hn⟩ = atRest n := by
      ext g; simp only [atRest, Finset.mem_erase, Finset.mem_filter, Finset.mem_univ, true_and, ne_eq, Fin.ext_iff]; omega
    rw [dif_neg h, dif_neg h, pure_bind, he]
    iintro ⟨Hb, Hs, Hr⟩ Hk
    iapply Hk
    isplitl [Hb]; · iexact Hb
    isplitl [Hs]; · iexact Hs
    iexact Hr

include hO in
/-- One group. -/
theorem group_wp (n : ℕ) (hn : n < 16) {kk : PUnit.{1} → Pr (F := F) i PUnit} {Q : PUnit.{1} → sProp 𝕄} :
    iprop(levAts (K (F := F)).L (K (F := F)).lev ∗ Inv d i X hP Y O W n)
      ⊢ iprop((Inv d i X hP Y O W (n + 1) -∗ wpT (F := F) d i (kk ⟨⟩) Q) -∗ wpT (F := F) d i (group i n hn >>= kk) Q) := by
  have hm : (⟨n, hn⟩ : Fin 16) ∈ toCome n := Finset.mem_filter.mpr ⟨Finset.mem_univ _, le_rfl⟩
  have he : (toCome n).erase ⟨n, hn⟩ = toCome (n + 1) := by
    ext g; simp only [toCome, Finset.mem_erase, Finset.mem_filter, Finset.mem_univ, true_and, ne_eq, Fin.ext_iff]; omega
  have hI : InSlot d i X n = InFl d i X ⟨n, hn⟩ (slot4 n) := dif_pos hn
  have hT : OutSlot d i X hP (n + 3) = OutFl d i X hP ⟨n, hn⟩ (slot3 n) := by
    unfold OutSlot; rw [dif_pos ⟨by omega, by omega⟩, slot3_add]; rfl
  unfold Inv group
  rw [SparseCore.bigSep_erase' hm, he, hI]
  simp only [bind_assoc]
  iintro ⟨#Hlv, HP, ⟨HI, HI1, HI2, HI3⟩, ⟨HT, HT1, HT2⟩, Hr, ⟨Ho, Hc⟩, Ha, HO⟩ Hk
  unfold waitIn
  iapply (wait_wp d i hO) $$ [HI HO]
  · isplitr; · iexact Hlv
    isplitl [HI]; · iexact HI
    iexact HO
  iintro ⟨⟨Hb, Hs⟩, Hv, HO⟩
  iapply (freeOut_wp d i X hP hO n hn) $$ [HT Ha HO]
  · isplitr; · iexact Hlv
    isplitl [HT]; · iexact HT
    isplitl [Ha]; · iexact Ha
    iexact HO
  iintro ⟨⟨Hob, Hov⟩, Ha, HO⟩
  iapply (permute_wp d i hP) $$ [HP Hb Hob]
  · isplitl [HP]; · iexact HP
    isplitl [Hb]; · iexact Hb
    iexact Hob
  iintro ⟨HP, Hb, Hob⟩
  iapply (startOut_wp d i X hP) $$ [Ho Hob Hov]
  · isplitl [Ho]; · iexact Ho
    isplitl [Hob]; · iexact Hob
    iexact Hov
  iintro HT3
  iapply (refill_wp d i X n hn) $$ [Hb Hv Hs Hr]
  · isplitl [Hb Hv]
    · isplitl [Hb]; · iapply Holds.any $$ Hb
      iexact Hv
    isplitl [Hs]; · iexact Hs
    iexact Hr
  iintro ⟨HI4, Hr⟩
  iapply Hk
  isplitl [HP]; · iexact HP
  isplitl [HI1 HI2 HI3 HI4]
  · isplitl [HI1]; · iexact HI1
    isplitl [HI2]; · iexact HI2
    isplitl [HI3]; · iexact HI3
    iexact HI4
  isplitl [HT1 HT2 HT3]
  · isplitl [HT1]; · iexact HT1
    isplitl [HT2]; · iexact HT2
    iapply (BIBase.Entails.of_eq hT.symm) $$ HT3
  isplitl [Hr]; · iexact Hr
  isplitl [Hc]; · iexact Hc
  isplitl [Ha]; · iexact Ha
  iexact HO

include hO in
/-- The first `n` groups, by induction. -/
theorem groups_wp (n : ℕ) (hn : n ≤ 16) {kk : PUnit.{1} → Pr (F := F) i PUnit} {Q : PUnit.{1} → sProp 𝕄} :
    iprop(levAts (K (F := F)).L (K (F := F)).lev ∗ Inv d i X hP Y O W 0)
      ⊢ iprop((Inv d i X hP Y O W n -∗ wpT (F := F) d i (kk ⟨⟩) Q) -∗ wpT (F := F) d i (groups i n hn >>= kk) Q) := by
  induction n generalizing kk with
  | zero =>
    unfold groups
    rw [pure_bind]
    iintro ⟨-, H⟩ Hk
    iapply Hk $$ H
  | succ n ih =>
    unfold groups
    rw [bind_assoc]
    iintro ⟨#Hlv, H⟩ Hk
    iapply (ih (Nat.le_of_succ_le hn)) $$ [H]
    · isplitr; · iexact Hlv
      iexact H
    iintro H
    iapply (group_wp d i X hP hO n hn) $$ [H]
    · isplitr; · iexact Hlv
      iexact H
    iexact Hk

/-! ## The whole of a subcore's work -/

/-- The subcore's eight buffers. -/
abbrev Bufs : sProp 𝕄 :=
  iprop(HoldsAny (F := F) (thr d i) permB
    ∗ HoldsAny (F := F) (thr d i) (rowBuf 0) ∗ HoldsAny (F := F) (thr d i) (rowBuf 1)
    ∗ HoldsAny (F := F) (thr d i) (rowBuf 2) ∗ HoldsAny (F := F) (thr d i) (rowBuf 3)
    ∗ HoldsAny (F := F) (thr d i) (outBuf 0) ∗ HoldsAny (F := F) (thr d i) (outBuf 1) ∗ HoldsAny (F := F) (thr d i) (outBuf 2))
/-- Its eight semaphores, at zero. -/
abbrev Sems : sProp 𝕄 :=
  iprop(Idle d i permSem ∗ Idle d i (inSem 0) ∗ Idle d i (inSem 1) ∗ Idle d i (inSem 2) ∗ Idle d i (inSem 3)
    ∗ Idle d i (outSem 0) ∗ Idle d i (outSem 1) ∗ Idle d i (outSem 2))

/-- Before group `n` its own input buffer is being filled. -/
theorem inSlot_busy (n : ℕ) (h : n < 16) (j : Fin 4) (hj : slot4 n = j) : InSlot d i X n = InFl d i X ⟨n, h⟩ j := by
  subst hj; exact dif_pos h
/-- Past the last group an input buffer is idle. -/
theorem inSlot_free (n : ℕ) (h : 16 ≤ n) (j : Fin 4) (hj : slot4 n = j) :
    InSlot d i X n = iprop(HoldsAny (F := F) (thr d i) (rowBuf j) ∗ Idle d i (inSem j)) := by
  subst hj; exact dif_neg (by omega)
/-- Before the first three groups their output buffers are idle. -/
theorem outSlot_free (n : ℕ) (h : n < 3) (j : Fin 3) (hj : slot3 n = j) :
    OutSlot d i X hP n = iprop(HoldsAny (F := F) (thr d i) (outBuf j) ∗ Idle d i (outSem j)) := by
  subst hj; exact dif_neg (by omega)
/-- Before group `n + 3` the buffer it shares with group `n` is going out with that group's rows. -/
theorem outSlot_busy (n : ℕ) (h : n < 16) (j : Fin 3) (hj : slot3 (n + 3) = j) :
    OutSlot d i X hP (n + 3) = OutFl d i X hP ⟨n, h⟩ j := by
  subst hj; exact dif_pos ⟨by omega, by omega⟩

/-- The source blocks, the first four taken out. -/
theorem src_split : bigSep Finset.univ (SrcB d i X)
    = iprop(SrcB d i X 0 ∗ SrcB d i X 1 ∗ SrcB d i X 2 ∗ SrcB d i X 3 ∗ bigSep (atRest 0) (SrcB d i X)) := by
  rw [show (Finset.univ : Finset (Fin 16)) = insert 0 (insert 1 (insert 2 (insert 3 (atRest 0)))) by decide,
    SparseCore.bigSep_insert' (by decide), SparseCore.bigSep_insert' (by decide), SparseCore.bigSep_insert' (by decide),
    SparseCore.bigSep_insert' (by decide)]
/-- The output blocks, the last three apart. -/
theorem out_join (Z : S2048x4096.Idx → Elt F .f32) : bigSep Finset.univ (OutB d i Z)
    = iprop(OutB d i Z 13 ∗ OutB d i Z 14 ∗ OutB d i Z 15 ∗ bigSep (arrived 16) (OutB d i Z)) := by
  rw [show (Finset.univ : Finset (Fin 16)) = insert 13 (insert 14 (insert 15 (arrived 16))) by decide,
    SparseCore.bigSep_insert' (by decide), SparseCore.bigSep_insert' (by decide), SparseCore.bigSep_insert' (by decide)]

attribute [local irreducible] groups

include hO in
/-- A subcore run from its share of the permutation, its source blocks and its output blocks returns them, the output
    blocks holding the result; its buffers are its own again and its semaphores are at zero. -/
theorem body_wp {q : PosShare TreeShare} :
    iprop(levAts (K (F := F)).L (K (F := F)).lev ∗ PermQ d i q P ∗ bigSep Finset.univ (SrcB d i X) ∗ bigSep Finset.univ (OutB d i Y)
        ∗ Bufs (F := F) d i ∗ Sems (F := F) d i ∗ owes (thr d i) O W)
      ⊢ wpT (F := F) d i (body i) (fun _ => iprop(PermQ d i q P ∗ bigSep Finset.univ (SrcB d i X)
          ∗ bigSep Finset.univ (OutB d i (rows X P hP)) ∗ Bufs (F := F) d i ∗ Sems (F := F) d i ∗ Owes d i O W)) := by
  have hr := (congrArg (fun s => bigSep s (SrcB d i X)) (show atRest 16 = Finset.univ by decide)).trans (src_split d i X)
  rw [src_split, out_join d i (rows X P hP)]
  unfold body waitPerm waitOut
  iintro ⟨#Hlv, Hq, ⟨Hs0, Hs1, Hs2, Hs3, Hr⟩, Ho, ⟨Hp, Hb0, Hb1, Hb2, Hb3, Ho0, Ho1, Ho2⟩, ⟨Hpv, Hv0, Hv1, Hv2, Hv3, Hw0, Hw1, Hw2⟩, HO⟩
  iapply (startPerm_wp d i (q := q) (P := P)) $$ [Hq Hp Hpv]
  · isplitl [Hq]; · iexact Hq
    isplitl [Hp]; · iexact Hp
    iexact Hpv
  iintro HPF
  iapply (startIn_wp d i X) $$ [Hs0 Hb0 Hv0]
  · isplitl [Hs0]; · iexact Hs0
    isplitl [Hb0]; · iexact Hb0
    iexact Hv0
  iintro HI0
  iapply (startIn_wp d i X) $$ [Hs1 Hb1 Hv1]
  · isplitl [Hs1]; · iexact Hs1
    isplitl [Hb1]; · iexact Hb1
    iexact Hv1
  iintro HI1
  iapply (startIn_wp d i X) $$ [Hs2 Hb2 Hv2]
  · isplitl [Hs2]; · iexact Hs2
    isplitl [Hb2]; · iexact Hb2
    iexact Hv2
  iintro HI2
  iapply (startIn_wp d i X) $$ [Hs3 Hb3 Hv3]
  · isplitl [Hs3]; · iexact Hs3
    isplitl [Hb3]; · iexact Hb3
    iexact Hv3
  iintro HI3
  iapply (wait_wp d i hO (W := W)) $$ [HPF HO]
  · isplitr; · iexact Hlv
    isplitl [HPF]; · iexact HPF
    iexists W; isplitr
    · ipureintro; exact fun p hp => Or.inl hp
    · iexact HO
  iintro ⟨⟨Hp, Hq⟩, Hpv, HO⟩
  iapply (groups_wp d i X hP (Y := Y) (W := W) hO 16 le_rfl) $$ [Hp HI0 HI1 HI2 HI3 Ho0 Hw0 Ho1 Hw1 Ho2 Hw2 Hr Ho HO]
  · isplitr; · iexact Hlv
    unfold Inv
    rw [inSlot_busy d i X 0 (by decide) 0 rfl, inSlot_busy d i X (0 + 1) (by decide) 1 rfl, inSlot_busy d i X (0 + 2) (by decide) 2 rfl,
      inSlot_busy d i X (0 + 3) (by decide) 3 rfl, outSlot_free d i X hP 0 (by decide) 0 rfl, outSlot_free d i X hP (0 + 1) (by decide) 1 rfl,
      outSlot_free d i X hP (0 + 2) (by decide) 2 rfl, show toCome 0 = Finset.univ by decide, show arrived 0 = ∅ by decide, BI.bigSep_empty]
    isplitl [Hp]; · iexact Hp
    isplitl [HI0 HI1 HI2 HI3]
    · isplitl [HI0]; · iexact HI0
      isplitl [HI1]; · iexact HI1
      isplitl [HI2]; · iexact HI2
      iexact HI3
    isplitl [Ho0 Hw0 Ho1 Hw1 Ho2 Hw2]
    · isplitl [Ho0 Hw0]
      · isplitl [Ho0]; · iexact Ho0
        iexact Hw0
      isplitl [Ho1 Hw1]
      · isplitl [Ho1]; · iexact Ho1
        iexact Hw1
      isplitl [Ho2]; · iexact Ho2
      iexact Hw2
    isplitl [Hr]; · iexact Hr
    isplitl [Ho]; · iexact Ho
    isplitr; · iempintro
    iexact HO
  unfold Inv
  rw [inSlot_free d i X 16 (by decide) 0 rfl, inSlot_free d i X (16 + 1) (by decide) 1 rfl, inSlot_free d i X (16 + 2) (by decide) 2 rfl,
    inSlot_free d i X (16 + 3) (by decide) 3 rfl, outSlot_busy d i X hP 13 (by decide) 1 rfl, outSlot_busy d i X hP 14 (by decide) 2 rfl,
    outSlot_busy d i X hP 15 (by decide) 0 rfl]
  iintro ⟨Hp, ⟨⟨Hb0, Hv0⟩, ⟨Hb1, Hv1⟩, ⟨Hb2, Hv2⟩, ⟨Hb3, Hv3⟩⟩, ⟨HT1, HT2, HT0⟩, Hr, -, Ha, HO⟩
  iapply (wait_wp d i hO) $$ [HT1 HO]
  · isplitr; · iexact Hlv
    isplitl [HT1]; · iexact HT1
    iexact HO
  iintro ⟨⟨Ha13, Ho1⟩, Hw1, HO⟩
  iapply (wait_wp d i hO) $$ [HT2 HO]
  · isplitr; · iexact Hlv
    isplitl [HT2]; · iexact HT2
    iexact HO
  iintro ⟨⟨Ha14, Ho2⟩, Hw2, HO⟩
  rw [← bind_pure (Prog.lift _)]
  iapply (wait_wp d i hO) $$ [HT0 HO]
  · isplitr; · iexact Hlv
    isplitl [HT0]; · iexact HT0
    iexact HO
  iintro ⟨⟨Ha15, Ho0⟩, Hw0, HO⟩
  unfold wpT
  rw [Prog.pure_eq_ret, wp_ret]
  imodintro
  isplitl [Hq]; · iexact Hq
  isplitl [Hr]; · iapply (BIBase.Entails.of_eq hr) $$ Hr
  isplitl [Ha13 Ha14 Ha15 Ha]
  · isplitl [Ha13]; · iexact Ha13
    isplitl [Ha14]; · iexact Ha14
    isplitl [Ha15]; · iexact Ha15
    iexact Ha
  isplitl [Hp Hb0 Hb1 Hb2 Hb3 Ho0 Ho1 Ho2]
  · isplitl [Hp]; · iapply Holds.any $$ Hp
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    iexact Ho2
  isplitl [Hpv Hv0 Hv1 Hv2 Hv3 Hw0 Hw1 Hw2]
  · isplitl [Hpv]; · iexact Hpv
    isplitl [Hv0]; · iexact Hv0
    isplitl [Hv1]; · iexact Hv1
    isplitl [Hv2]; · iexact Hv2
    isplitl [Hv3]; · iexact Hv3
    isplitl [Hw0]; · iexact Hw0
    isplitl [Hw1]; · iexact Hw1
    iexact Hw2
  iexact HO

end Groups

end Cert.Proof

end
-- ==== Proof.Launch.lean ====
/-
  The launch. The call hands each of the 32 vector subcores sixteen blocks of four source rows, sixteen blocks of four
  output rows and a share of the permutation; the blocks are all of the two arrays, so what comes back is the whole
  result, row `r` of it being row `2047 - r` of the source taken at the permutation's columns.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Task

variable {F : FTy → Type}

local notation "𝕄" => MT nD τ sig (HIx 1) (Elt F) ℕ UU ℕ

/-! ## The blocks are the whole arrays -/

/-- The grid point of subcore `s` of core `c`. -/
def pt (c : Fin (grid0.bound 0)) (s : Fin (grid0.bound 1)) : grid0.Coords :=
  fun | 0 => c | 1 => s | ⟨_ + 2, h⟩ => absurd h (Nat.not_lt.2 (Nat.le_add_left _ _))

/-- A core, a subcore of it and a group. -/
abbrev Piece : Type := Fin ((K (F := F)).nCore 0) × Fin ((K (F := F)).nSub 0) × Fin 16

/-- The four source rows of a piece: numbered from the last row up, they are the block of this number. -/
theorem mem_srcBlk (p : Piece (F := F)) (y : S2048x4096.Idx) :
    y ∈ (srcBlk (pt p.1 p.2.1) p.2.2).view.set ↔ (2047 - (y 0).val) / 4 = 32 * p.2.1.val + 16 * p.1.val + 15 - p.2.2.val := by
  obtain ⟨c, s, g⟩ := p
  have hs : (srcBlk (pt c s) g).view.set = (Rect.unit (s := S2048x4096) (k0_off1 (pt c s) (BitVec.ofNat 32 (4 * g.val))) S4x4096.size
      (k0_off1_inb (pt c s) g)).set := by
    show ((View.whole (main_arg0_scv : Ref sig .scVector)).slice _).set = _
    rw [View.set_slice]; exact Finset.map_refl
  have h0 : k0_off1 (pt c s) (BitVec.ofNat 32 (4 * g.val)) 0 = (4 * g.val + 1984) - (128 * s.val + 64 * c.val) := by
    rw [k0_off1_eq]; rfl
  have h1 : k0_off1 (pt c s) (BitVec.ofNat 32 (4 * g.val)) 1 = 0 := by rw [k0_off1_eq]; rfl
  have hy0 : (y 0).val < 2048 := (y 0).isLt
  have hy1 : (y 1).val < 4096 := (y 1).isLt
  have hc : c.val < 2 := c.isLt
  have hs' : s.val < 16 := s.isLt
  rw [hs, Rect.mem_set_unit]
  show (∀ a : Fin 2, _) ↔ _
  rw [Fin.forall_fin_two, h0, h1]
  show (_ ≤ (y 0).val ∧ (y 0).val < _ + 4) ∧ (0 ≤ (y 1).val ∧ (y 1).val < 0 + 4096) ↔ _
  dsimp only
  omega

/-- The four output rows of a piece: numbered from the first row down, they are the block of the same number. -/
theorem mem_outBlk (p : Piece (F := F)) (y : S2048x4096.Idx) :
    y ∈ (outBlk (pt p.1 p.2.1) p.2.2).view.set ↔ (y 0).val / 4 = 32 * p.2.1.val + 16 * p.1.val + 15 - p.2.2.val := by
  obtain ⟨c, s, g⟩ := p
  have hs : (outBlk (pt c s) g).view.set = (Rect.unit (s := S2048x4096) (k0_off7 (pt c s) (BitVec.ofNat 32 (4 * g.val))) S4x4096.size
      (k0_off7_inb (pt c s) g)).set := by
    show ((View.whole (main_v0_scv : Ref sig .scVector)).slice _).set = _
    rw [View.set_slice]; exact Finset.map_refl
  have h0 : k0_off7 (pt c s) (BitVec.ofNat 32 (4 * g.val)) 0 = (128 * s.val + 64 * c.val + 60) - 4 * g.val := by
    rw [k0_off7_eq]; rfl
  have h1 : k0_off7 (pt c s) (BitVec.ofNat 32 (4 * g.val)) 1 = 0 := by rw [k0_off7_eq]; rfl
  have hy1 : (y 1).val < 4096 := (y 1).isLt
  rw [hs, Rect.mem_set_unit]
  show (∀ a : Fin 2, _) ↔ _
  rw [Fin.forall_fin_two, h0, h1]
  show (_ ≤ (y 0).val ∧ (y 0).val < _ + 4) ∧ (0 ≤ (y 1).val ∧ (y 1).val < 0 + 4096) ↔ _
  dsimp only
  omega

/-- An array held whole is its pieces, when every element belongs to the piece of its block's number. -/
theorem pts_pieces {ℓ : Loc nD τ sig} (B : Piece (F := F) → Finset (Idx ℓ)) (n : Idx ℓ → ℕ) (hn : ∀ y, n y < 512)
    (hB : ∀ p y, y ∈ B p ↔ n y = 32 * p.2.1.val + 16 * p.1.val + 15 - p.2.2.val) (f : Buf (Elt F) ℓ) :
    (ℓ ↦{fullShare} f : sProp 𝕄)
      = bigSep Finset.univ fun c => bigSep Finset.univ fun s => bigSep Finset.univ fun g => ℓ ↦[B (c, s, g)]{fullShare} f := by
  have hd : ∀ p ∈ (Finset.univ : Finset (Piece (F := F))), ∀ p' ∈ (Finset.univ : Finset (Piece (F := F))), p ≠ p' → Disjoint (B p) (B p') := by
    rintro ⟨c, s, g⟩ - ⟨c', s', g'⟩ - h
    refine Finset.disjoint_left.mpr fun y hy hy' => h ?_
    have e := ((hB _ _).mp hy).symm.trans ((hB _ _).mp hy')
    have hc : c.val < 2 := c.isLt
    have hc' : c'.val < 2 := c'.isLt
    have := g.isLt
    have := g'.isLt
    dsimp only at e
    have h1 : s = s' := Fin.ext (by omega)
    have h2 : c = c' := Fin.ext (by omega)
    have h3 : g = g' := Fin.ext (by omega)
    rw [h1, h2, h3]
  have hu : (Finset.univ : Finset (Piece (F := F))).biUnion B = Finset.univ := by
    ext y
    have := hn y
    refine ⟨fun _ => Finset.mem_univ y, fun _ => Finset.mem_biUnion.mpr
      ⟨(⟨n y % 32 / 16, by show _ < 2; omega⟩, ⟨n y / 32, by show _ < 16; omega⟩, ⟨15 - n y % 16, by omega⟩), Finset.mem_univ _, (hB _ _).mpr ?_⟩⟩
    dsimp only
    omega
  rw [← hu, pointsTo_biUnion Finset.univ B hd]
  exact (bigSep_univ_prod _).trans (bigSep_congr fun c _ => bigSep_univ_prod _)

/-! ## A subcore's buffers and semaphores among all it owns -/

/-- `Φ` at the members of a nonempty list, one after the other. -/
def chain {I : Type} (Φ : I → sProp 𝕄) : I → List I → sProp 𝕄
  | x, [] => Φ x
  | x, y :: l => iprop(Φ x ∗ chain Φ y l)

/-- Distinct members of a set, taken out of it. -/
theorem bigSep_chain {I : Type} [DecidableEq I] (Φ : I → sProp 𝕄) (l : List I) : ∀ (x : I) (s : Finset I), (x :: l).Nodup → (∀ y ∈ x :: l, y ∈ s) →
    bigSep s Φ = iprop(chain Φ x l ∗ bigSep ((x :: l).foldl Finset.erase s) Φ) := by
  induction l with
  | nil => intro x s _ hs; exact SparseCore.bigSep_erase' (hs x (List.mem_singleton_self x))
  | cons y l ih =>
    intro x s hn hs
    have hn' := List.nodup_cons.mp hn
    rw [SparseCore.bigSep_erase' (hs x List.mem_cons_self), ih y (s.erase x) hn'.2 fun z hz =>
      Finset.mem_erase.mpr ⟨fun e => hn'.1 (e ▸ hz), hs z (List.mem_cons_of_mem _ hz)⟩]
    exact BI.sep_assoc'.antisymm BI.sep_assoc

variable (d : Dev nD) (i : grid0.Coords)

/-- What a subcore owns of buffers: the eight the program names, and the rest. -/
theorem ownBufs_thr : ∃ R : sProp 𝕄, ownBufs (thr d i) = iprop(Bufs (F := F) d i ∗ R) := by
  have hw : ∀ b : Ref sig .scVector, HoldsAny (F := F) (thr d i) (Memref.whole b)
      = iprop(∃ f, ((d, (thr d i).2.devRef b) : Loc nD τ sig) ↦{fullShare} f) := by
    intro b
    show iprop(∃ f : Buf (Elt F) ((thr d i).loc b), (thr d i).loc b ↦[(View.whole b).set]{fullShare} f) = _
    rw [View.set_whole]
  let l : List (Ref sig .scVector) := [cc0_scratch1, cc0_scratch2, cc0_scratch3, cc0_scratch4, cc0_scratch5, cc0_scratch6, cc0_scratch7]
  have ho : ∀ b ∈ cc0_scratch0 :: l, ((thr d i).2.devRef b).owner = .proc (thr d i).2 := by
    simp only [l, List.forall_mem_cons]
    exact ⟨rfl, rfl, rfl, rfl, rfl, rfl, rfl, rfl, fun _ h => nomatch h⟩
  have e := bigSep_chain (F := F) (fun b => iprop(∃ f, ((d, b) : Loc nD τ sig) ↦{fullShare} f)) (l.map (thr d i).2.devRef)
    ((thr d i).2.devRef cc0_scratch0) (ownRefs (thr d i).2)
    (show ((cc0_scratch0 :: l).map (thr d i).2.devRef).Nodup from
      List.Nodup.map (Proc.devRef_injective _) (show (cc0_scratch0 :: l).Nodup by decide))
    (fun y hy => by
      obtain ⟨b, hb, rfl⟩ := List.mem_map.mp (show y ∈ (cc0_scratch0 :: l).map (thr d i).2.devRef from hy)
      exact SparseCore.Cfg.mem_ownRefs_of_owner (ho b hb))
  refine ⟨_, e.trans (congrArg (fun A => iprop(A ∗ _)) ?_)⟩
  unfold Bufs rowBuf outBuf
  simp only [hw]
  rfl

/-- What a subcore owns of semaphores: the eight the program names, and the rest. -/
theorem ownSems0_thr : ∃ R : sProp 𝕄, ownSems0 (thr d i) = iprop(Sems (F := F) d i ∗ R) := by
  let l : List (SemLoc sig) := [.dma (inSem 0), .dma (inSem 1), .dma (inSem 2), .dma (inSem 3), .dma (outSem 0), .dma (outSem 1), .dma (outSem 2)]
  have e := bigSep_chain (F := F) (fun g => semVal g 0) (l.map fun sm => (thr d i, sm)) (thr d i, SemLoc.dma permSem) (ownCells (thr d i))
    (show ((SemLoc.dma permSem :: l).map fun sm => (thr d i, sm)).Nodup from
      List.Nodup.map (fun _ _ e => (Prod.mk.inj e).2) (show (SemLoc.dma permSem :: l).Nodup by decide))
    (fun y hy => by
      obtain ⟨b, hb, rfl⟩ := List.mem_map.mp (show y ∈ (SemLoc.dma permSem :: l).map (fun sm => (thr d i, sm)) from hy)
      exact mem_ownCells.mpr ⟨rfl, (show ∀ b ∈ SemLoc.dma permSem :: l, b.isScoped .scVector = true by decide) b hb⟩)
  exact ⟨_, e⟩

end Cert.Proof

end
-- ==== Proof.Run.lean ====
/-
  The kernel's run, at any float values: from a permutation whose words are all below 4096 it ends, the source and the
  permutation unchanged, the result at `rows` of them, every semaphore at zero.
-/
module

public import proofs.«01_k».proof.Proof.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Task

variable {F : FTy → Type} [FloatOps F]

local notation "𝕄" => MT nD τ sig (HIx 1) (Elt F) ℕ UU ℕ

/-! ## The memory at the launch -/

/-- Where the source lies on device `d`. -/
abbrev srcLoc (d : Dev nD) : Loc nD τ sig := (SparseCore.T d).loc main_arg0
/-- Where the permutation lies on device `d`. -/
abbrev permLoc (d : Dev nD) : Loc nD τ sig := (SparseCore.T d).loc main_arg1
/-- Where the result lies on device `d`. -/
abbrev outLoc (d : Dev nD) : Loc nD τ sig := (SparseCore.T d).loc main_v0

variable (m : (ℓ : Loc nD τ sig) → Buf (Elt F) ℓ) (ρ : Dev nD → PrngReg)

/-- The source at the start. -/
abbrev srcAt (d : Dev nD) : S2048x4096.Idx → Elt F .f32 := m (srcLoc d)
/-- The permutation at the start. -/
abbrev permAt (d : Dev nD) : S4096.Idx → BitVec 32 := m (permLoc d)
/-- The result array at the start. -/
abbrev outAt (d : Dev nD) : S2048x4096.Idx → Elt F .f32 := m (outLoc d)

/-- Every word of the permutation is a column number. -/
def PermOK : Prop := ∀ (d : Dev nD) (j : S4096.Idx), (permAt m d j).toNat < 4096

variable {m} (hm : PermOK m)

/-- The result on device `d`. -/
abbrev result (d : Dev nD) : S2048x4096.Idx → Elt F .f32 := rows (srcAt m d) (permAt m d) (hm d)

/-! ## What the launch hands over -/

/-- SparseCore `c`'s share of the permutation. -/
abbrev coreShare (c : ℕ) : PosShare TreeShare := shareTokN fullShare c
/-- The share of the permutation that subcore `s` of SparseCore `c` reads under. -/
abbrev subShare (c s : ℕ) : PosShare TreeShare := shareTokN (coreShare c) s

/-- What subcore `s` of core `c` holds, the output blocks holding `Y`. -/
def Hand (m : (ℓ : Loc nD τ sig) → Buf (Elt F) ℓ) (d : Dev nD) (Y : S2048x4096.Idx → Elt F .f32) (c : Fin ((K (F := F)).nCore 0))
    (s : Fin ((K (F := F)).nSub 0)) : sProp 𝕄 :=
  iprop(PermQ d (pt c s) (subShare c.val s.val) (permAt m d) ∗ bigSep Finset.univ (SrcB d (pt c s) (srcAt m d))
    ∗ bigSep Finset.univ (OutB d (pt c s) Y))

/-- What a subcore is handed may be stored in a handshake. -/
instance Hand_storable (d : Dev nD) (Y : S2048x4096.Idx → Elt F .f32) (c : Fin ((K (F := F)).nCore 0)) (s : Fin ((K (F := F)).nSub 0)) :
    BI.Storable (upEmb : UEmb _ 𝕄) (Hand m d Y c s) := by
  unfold Hand; infer_instance

/-- What all of core `c`'s subcores hold. -/
def HandCore (m : (ℓ : Loc nD τ sig) → Buf (Elt F) ℓ) (d : Dev nD) (Y : S2048x4096.Idx → Elt F .f32) (c : Fin ((K (F := F)).nCore 0)) : sProp 𝕄 :=
  bigSep Finset.univ fun s => Hand m d Y c s

/-- What a SparseCore is handed may be stored in a handshake. -/
instance HandCore_storable (d : Dev nD) (Y : S2048x4096.Idx → Elt F .f32) (c : Fin ((K (F := F)).nCore 0)) :
    BI.Storable (upEmb : UEmb _ 𝕄) (HandCore m d Y c) := by
  unfold HandCore; infer_instance

/-- A core is handed what its subcores need, and each subcore its own; it all comes back with the result in the output
    blocks. -/
def P : (K (F := F)).Pay (nD := nD) (Val := Elt F) (Name := ℕ) (U := UU) where
  st := fun q d c => match q with | 0 => HandCore m d (outAt m d) c
  dn := fun q d c => match q with | 0 => HandCore m d (result hm d) c
  go := fun q d c s => match q with | 0 => Hand m d (outAt m d) c s
  td := fun q d c s => match q with | 0 => Hand m d (result hm d) c s
  x := fun _ _ => iprop(emp)

/-- All that the handshakes carry may be stored in them. -/
instance P_storable : (P hm).IsStorable where
  st q d c := match q with | 0 => HandCore_storable d (outAt m d) c
  dn q d c := match q with | 0 => HandCore_storable d (result hm d) c
  go q d c s := match q with | 0 => Hand_storable d (outAt m d) c s
  td q d c s := match q with | 0 => Hand_storable d (result hm d) c s

/-! ## A subcore's part -/

/-- A subcore's task: from what it is handed to what it hands back, its own buffers and semaphores returned. -/
theorem tile_run (d : Dev nD) (c : Fin ((K (F := F)).nCore 0)) (s : Fin ((K (F := F)).nSub 0)) (O : CellTallies nD τ sig (HIx 1))
    (W : Waits sig (HIx 1)) (hO : ∀ g, O g none = 0) :
    iprop(levAts (K (F := F)).L (K (F := F)).lev ∗ emp ∗ Hand m d (outAt m d) c s
        ∗ scopedBufs (thr d (pt c s)) ∗ scopedSems0 (thr d (pt c s)) ∗ owes (thr d (pt c s)) O W)
      ⊢ wpT (F := F) d (pt c s) (body (pt c s)) (fun _ => iprop(Hand m d (result hm d) c s
          ∗ scopedBufs (thr d (pt c s)) ∗ scopedSems0 (thr d (pt c s))
          ∗ Owes d (pt c s) O W)) := by
  obtain ⟨RB, hRB⟩ := ownBufs_thr (F := F) d (pt c s)
  obtain ⟨RS, hRS⟩ := ownSems0_thr (F := F) d (pt c s)
  rw [(K (F := F)).scopedBufs_V launchFacts d _ _, SparseCore.Cfg.scopedSems0_V (Val := Elt F) d _ _, hRB, hRS]
  unfold Hand
  iintro ⟨Hlv, -, ⟨Hp, Hs, Ho⟩, ⟨Hb, HRB⟩, ⟨Hv, HRS⟩, HO⟩
  unfold wpT
  iapply (wp_wand_r frame _ _) $$ [Hlv Hp Hs Ho Hb Hv HO HRB HRS]
  isplitl [Hlv Hp Hs Ho Hb Hv HO]
  · iapply (body_wp d (pt c s) (srcAt m d) (hm d) (Y := outAt m d) hO (W := W)) $$ [Hlv Hp Hs Ho Hb Hv HO]
    isplitl [Hlv]; · iexact Hlv
    isplitl [Hp]; · iexact Hp
    isplitl [Hs]; · iexact Hs
    isplitl [Ho]; · iexact Ho
    isplitl [Hb]; · iexact Hb
    isplitl [Hv]; · iexact Hv
    iexact HO
  iintro %u ⟨Hp, Hs, Ho, Hb, Hv, HO⟩
  isplitl [Hp Hs Ho]
  · isplitl [Hp]; · iexact Hp
    isplitl [Hs]; · iexact Hs
    iexact Ho
  isplitl [Hb HRB]
  · isplitl [Hb]; · iexact Hb
    iexact HRB
  isplitl [Hv HRS]
  · isplitl [Hv]; · iexact Hv
    iexact HRS
  iexact HO

/-- The body that the body table gives to subcore `s` of SparseCore `c`: the printed one, at that subcore's coordinates. -/
theorem defs₀_vector (c : Fin τ.nSC) (s : Fin τ.nSub) :
    defs₀ (F := F) (.scVector c s) 0 ()
      = SparseCore.onTile hcore0 hsub0 (fun c s => cc0__decoder_body (pt c s) srcV (Memref.isWhole_whole _) permV (Memref.isWhole_whole _)
          outV (Memref.isWhole_whole _) permB (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          cc0_scratch8 cc0_scratch9 cc0_scratch10 cc0_scratch11 cc0_scratch12 cc0_scratch13 cc0_scratch14 cc0_scratch15) ⟨⟩ c s := rfl

/-- What is known of the waits a thread ends with may be weakened. -/
theorem owes_weaken {t : Thread nD τ} {A B C : sProp 𝕄} {O : CellTallies nD τ sig (HIx 1)} {p q : SemLoc sig × HIx 1 → Prop} (h : ∀ x, p x → q x) :
    iprop(A ∗ B ∗ C ∗ ∃ W', ⌜∀ x ∈ W', p x⌝ ∗ owes t O W') ⊢ iprop(A ∗ B ∗ C ∗ ∃ W', ⌜∀ x ∈ W', q x⌝ ∗ owes t O W') := by
  iintro ⟨HA, HB, HC, %W', %hW, HO⟩
  isplitl [HA]; · iexact HA
  isplitl [HB]; · iexact HB
  isplitl [HC]; · iexact HC
  iexists W'; isplitr
  · ipureintro; exact fun x hx => h x (hW x hx)
  · iexact HO

/-- What the launch asks of the call's task on a vector subcore. -/
theorem tileObl : (K (F := F)).TileObl (D (F := F)) 𝒱 (P hm) v₀ 0 := by
  intro d c i O W hO _ _
  simp only [show (P hm).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ (wp_mono frame _ _ fun _ => owes_weaken fun p => Or.imp_right Or.inl)
  have h := tile_run hm d c i O W hO
  unfold wpT at h
  rw [← body_eq] at h
  exact h

/-- A core hands its subcores what it was handed, and hands back what they do. -/
theorem vecSplit : (K (F := F)).VecSplit' (P hm) 0 := by
  intro d c
  show HandCore m d (outAt m d) c ⊢ |={Set.univ}=> iprop((bigSep Finset.univ fun s => Hand m d (outAt m d) c s)
      ∗ ((bigSep Finset.univ fun s => Hand m d (result hm d) c s) -∗ HandCore m d (result hm d) c))
  unfold HandCore
  iintro H; imodintro
  isplitl [H]; · iexact H
  iintro H; iexact H

/-! ## The arrays dealt among the subcores -/

/-- What is left of the permutation when every subcore has its share. -/
abbrev PermRest (d : Dev nD) (f : Buf (Elt F) (permLoc d)) : sProp 𝕄 :=
  iprop((permLoc d ↦{shareDrop fullShare 2} f) ∗ bigSep Finset.univ fun c : Fin ((K (F := F)).nCore 0) => permLoc d ↦{shareDrop (coreShare c.val) 16} f)

/-- A whole permutation is every subcore's share of it and the remainder. -/
theorem perm_deal (d : Dev nD) (f : Buf (Elt F) (permLoc d)) :
    (permLoc d ↦{fullShare} f : sProp 𝕄) = iprop(PermRest d f ∗ bigSep Finset.univ fun c : Fin ((K (F := F)).nCore 0) =>
      bigSep Finset.univ fun s : Fin ((K (F := F)).nSub 0) => permLoc d ↦{subShare c.val s.val} f) := by
  have h (q : PosShare TreeShare) (n : ℕ) : (permLoc d ↦{q} f : sProp 𝕄)
      = iprop((permLoc d ↦{shareDrop q n} f) ∗ bigSep Finset.univ fun k : Fin n => permLoc d ↦{shareTokN q k.val} f) :=
    (Transfers.pointsTo_toks q n).1.antisymm (Transfers.pointsTo_toks q n).2
  have hc : (bigSep Finset.univ fun c : Fin ((K (F := F)).nCore 0) => (permLoc d ↦{coreShare c.val} f : sProp 𝕄))
      = iprop((bigSep Finset.univ fun c : Fin ((K (F := F)).nCore 0) => permLoc d ↦{shareDrop (coreShare c.val) 16} f)
          ∗ bigSep Finset.univ fun c : Fin ((K (F := F)).nCore 0) =>
            bigSep Finset.univ fun s : Fin ((K (F := F)).nSub 0) => permLoc d ↦{subShare c.val s.val} f) := by
    rw [← bigSep_sep']
    exact bigSep_congr fun c _ => h (coreShare c.val) 16
  refine (h fullShare 2).trans ((congrArg (fun A => iprop(_ ∗ A)) hc).trans ?_)
  exact BI.sep_assoc'.antisymm BI.sep_assoc

/-- Four conjuncts in another order. -/
theorem sep_shuffle {A B C R : sProp 𝕄} : iprop(A ∗ (R ∗ B) ∗ C) = iprop((B ∗ A ∗ C) ∗ R) := by
  have h1 : iprop(A ∗ (R ∗ B) ∗ C) ⊢ iprop((B ∗ A ∗ C) ∗ R) := by
    iintro ⟨HA, ⟨HR, HB⟩, HC⟩
    isplitr [HR]
    · isplitl [HB]; · iexact HB
      isplitl [HA]; · iexact HA
      iexact HC
    · iexact HR
  have h2 : iprop((B ∗ A ∗ C) ∗ R) ⊢ iprop(A ∗ (R ∗ B) ∗ C) := by
    iintro ⟨⟨HB, HA, HC⟩, HR⟩
    isplitl [HA]; · iexact HA
    isplitr [HC]
    · isplitl [HR]; · iexact HR
      iexact HB
    · iexact HC
  exact h1.antisymm h2

/-- The three arrays are what the subcores hold, and the rest of the permutation. -/
theorem deal (d : Dev nD) (Y : S2048x4096.Idx → Elt F .f32) :
    (iprop((srcLoc d ↦{fullShare} srcAt m d) ∗ (permLoc d ↦{fullShare} permAt m d) ∗ (outLoc d ↦{fullShare} Y)) : sProp 𝕄)
      = iprop((bigSep Finset.univ fun c => HandCore m d Y c) ∗ PermRest d (permAt m d)) := by
  have hp (c : Fin ((K (F := F)).nCore 0)) (s : Fin ((K (F := F)).nSub 0)) :
      (PermQ d (pt c s) (subShare c.val s.val) (permAt m d) : sProp 𝕄) = (permLoc d ↦{subShare c.val s.val} permAt m d) := by
    show (permLoc d ↦[(View.whole (main_arg1_scv : Ref sig .scVector)).set]{_} _ : sProp 𝕄) = _
    rw [View.set_whole]
  have hs := pts_pieces (F := F) (ℓ := srcLoc d) (fun p => (srcBlk (pt p.1 p.2.1) p.2.2).view.set) (fun y => (2047 - (y 0).val) / 4)
    (fun y => by have : (y 0).val < 2048 := (y 0).isLt; omega) mem_srcBlk (srcAt m d)
  have ho := pts_pieces (F := F) (ℓ := outLoc d) (fun p => (outBlk (pt p.1 p.2.1) p.2.2).view.set) (fun y => (y 0).val / 4)
    (fun y => by have : (y 0).val < 2048 := (y 0).isLt; omega) mem_outBlk Y
  unfold HandCore Hand
  rw [hs, ho, perm_deal]
  simp only [bigSep_sep', hp]
  exact sep_shuffle

/-! ## The run -/

/-- The proof's own resources at the launch: the handshakes', and no counter yet. -/
def u₀ : UU := (initOf (K (F := F)).hsCells (K (F := F)).hsToks, 1)

/-- Nothing, once per member of a set, is nothing. -/
theorem bigSep_emp {I : Type} (s : Finset I) : (bigSep s fun _ => iprop(emp)) = (iprop(emp) : sProp 𝕄) := bigSep_emp_const s

/-- The resources at launch: the handshakes' starting tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P hm).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp]; iempintro
  rw [show (bigSep Finset.univ fun thr : Thread nD τ => bigSep Finset.univ fun q : Fin 1 => (P hm).x q thr) = bigSep Finset.univ fun _ => iprop(emp) from
    bigSep_congr fun _ _ => bigSep_univ_of_subsingleton (0 : Fin 1), bigSep_emp]
  iempintro

/-- The TensorCore's arrays are the source, the permutation and the result. -/
theorem unscopedBufs_eq (d : Dev nD) (W : (b : Ref sig .tc) → Buf (Elt F) ((d.tc : Thread nD τ).loc b)) :
    (unscopedBufs d W : sProp 𝕄)
      = iprop((srcLoc d ↦{fullShare} W main_arg0) ∗ (permLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What a device ends with: the source and the permutation as they were, the result in the output. -/
abbrev FIN (d : Dev nD) : sProp 𝕄 :=
  iprop((srcLoc d ↦{fullShare} srcAt m d) ∗ (permLoc d ↦{fullShare} permAt m d) ∗ (outLoc d ↦{fullShare} result hm d))

/-- The program on the TensorCore: the one call. -/
theorem hmain (κ : GSem nD τ sig → ℕ) (d : Dev nD) :
    iprop((K (F := F)).ctx EH (P hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN hm d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  ihave Ha' := (Entails.of_eq (deal d (outAt m d))) $$ Ha
  icases Ha' with ⟨Hh, HR⟩
  iapply ((K (F := F)).wp_run (D (F := F)) 𝒱 (EH := EH) (P := P hm) κ d 0) $$ [Hst Hh Hb Hts HR]
  isplitr; · iexact Hctx
  isplitl [Hst]; · iexact Hst
  isplitl [Hh]; · iexact Hh
  iintro ⟨Hst, Hdn⟩
  imodintro
  isplitl [Hst]; · iexact Hst
  isplitr [Hb Hts]
  · iapply (Entails.of_eq (deal d (result hm d)).symm)
    isplitl [Hdn]; · iexact Hdn
    iexact HR
  isplitl [Hb]; · iexact Hb
  iexact Hts

/-- What the memory says at the end, on device `d`. -/
def fq (d : Dev nD) (s' : Phys nD τ sig (Elt F)) : Prop :=
  s'.mem.mem (srcLoc d) = m (srcLoc d) ∧ s'.mem.mem (permLoc d) = m (permLoc d) ∧ s'.mem.mem (outLoc d) = result hm d

/-- What the launch ends with fixes the three arrays in the final memory. -/
theorem hfin (d : Dev nD) (s' : Phys nD τ sig (Elt F)) : iprop(FIN hm d ∗ SI s') ⊢ (⌜fq hm d s'⌝ : sProp 𝕄) := by
  have agree (ℓ : Loc nD τ sig) (f : Buf (Elt F) ℓ) : iprop(SI s' ∗ ℓ ↦{fullShare} f) ⊢ (iprop(⌜s'.mem.mem ℓ = f⌝ ∗ SI s') : sProp 𝕄) := by
    iintro H
    ihave H := (persistent_entails_right (SI_pointsTo_agree (st := s') (ℓ := ℓ) (I := Finset.univ) (q := fullShare) (f := f))) $$ H
    icases H with ⟨%h, HSI, -⟩
    isplitr
    · ipureintro; exact funext fun x => h x (Finset.mem_univ x)
    · iexact HSI
  iintro ⟨⟨Hs, Hp, Ho⟩, HSI⟩
  ihave H := (agree _ _) $$ [HSI Hs]
  · isplitl [HSI]; · iexact HSI
    iexact Hs
  icases H with ⟨%h1, HSI⟩
  ihave H := (agree _ _) $$ [HSI Hp]
  · isplitl [HSI]; · iexact HSI
    iexact Hp
  icases H with ⟨%h2, HSI⟩
  ihave H := (agree _ _) $$ [HSI Ho]
  · isplitl [HSI]; · iexact HSI
    iexact Ho
  icases H with ⟨%h3, -⟩
  ipureintro; exact ⟨h1, h2, h3⟩

/-- What every run ends with. -/
def QC : PUnit × MemSt nD τ sig (Elt F) → Prop := fun r =>
  (∀ d : Dev nD, r.2.mem (srcLoc d) = m (srcLoc d) ∧ r.2.mem (permLoc d) = m (permLoc d) ∧ r.2.mem (outLoc d) = result hm d)
    ∧ r.2.sem = fun _ => 0

/-- The kernel runs to its end from a permutation in range: arguments unchanged, the result at `rows` of them, every
    semaphore at zero. -/
theorem run_main [∀ e, Nonempty (Elt F e)] :
    θ_run (Cert.KernelIdeal.defs (F := F)) (Cert.KernelIdeal.threads (F := F)) ⟨m, fun _ => 0, ρ⟩ (QC hm) :=
  SparseCore.Cfg.θ_run_sc_quiescent (K := K (F := F)) (D := D (F := F)) (𝒱 := 𝒱) (EH := EH) (P := P hm) (A := ∅) launchFacts v₀
    (fun q hq => match q with | 0 => nomatch hq)
    (fun q _ => match q with | 0 => tileObl hm)
    (fun q _ => match q with | 0 => SparseCore.Cfg.VecSplit.of_plain (vecSplit hm))
    m ρ main (fun _ => iprop(emp)) (FIN hm) (u₀ (F := F)) (sep_elim_left.trans (hu₀ hm)) (hmain ρ hm) (fq hm) (hfin hm) (QC hm)
    (fun _ h hz => ⟨h, hz⟩)

end Cert.Proof

end
-- ==== Proof.Ref.lean ====
/-
  The reference. `source[::-1]` and `jnp.take` along the columns print as one straight line of twenty-four array
  operations on the TensorCore: a reversal of the rows, the wrapping of negative column numbers, the test that a column
  number is in range, a gather, and a select that puts a fill value where the test fails. With every column number in
  `[0, 4096)` nothing wraps and nothing is filled, and the line ends at `rows`, the value the kernel leaves.
-/
module

public import proofs.«01_k».proof.Proof.Tile
public import proofs.«01_k».proof.Proof.Gen.ReferenceIdeal
public import proofs.«01_k».proof.Proof.Gen.Pre_perm_in_range
public import Idealize.ShloMosaic.Lib.StableHlo.Run
public import Idealize.ShloMosaic.Lib.StableHlo.Predicate
public import Idealize.ShloMosaic.Lib.ReduceAll
public import Idealize.ShloMosaic.Lib.Quiescent

@[expose] public section

noncomputable section

namespace Cert.Proof

open Idealize.ShloMosaic Idealize.ShloMosaic.TcCoe Idealize.ShloMosaic.StableHlo Idealize.ShloMosaic.StableHlo.Predicate Idealize.SL.Sem

variable {F : FTy → Type} [FloatOps F]

/-! ## Words in range -/

/-- A word that compares signed in `[0, 4096)` is a number below 4096. -/
theorem lt_of_in_range {v : BitVec 32} (h : IntOp.andi (IntOp.cmpi .sge v 0#32) (IntOp.cmpi .slt v 4096#32) = 1#1) : v.toNat < 4096 := by
  obtain ⟨h0, h1⟩ := IntOp.andi_eq_one.1 h
  simp only [IntOp.cmpi, ofBool_eq_one_iff, BitVec.sle_eq_decide, BitVec.slt_eq_decide, decide_eq_true_eq, BitVec.toInt_eq_toNat_cond,
    BitVec.toNat_ofNat, Nat.reducePow, Nat.reduceMod] at h0 h1
  omega

/-- The precondition, all ones, says that every column number is below 4096. -/
theorem in_range_of_pre {X : FVec F Cert.Pre_perm_in_range.S2048x4096 .f32} {p : IVec Cert.Pre_perm_in_range.S4096 32}
    (h : Cert.Pre_perm_in_range.fn X p = fun _ => 1#1) (j : Cert.Pre_perm_in_range.S4096.Idx) : (p j).toNat < 4096 := by
  have e := congrFun h (Shape.Idx.first Cert.Pre_perm_in_range.Gen.h_S_)
  have : Subsingleton Cert.Pre_perm_in_range.S_.Idx := ⟨fun _ _ => funext fun a => a.elim0⟩
  exact lt_of_in_range (Host.reduce_andi_all _ _ _ _ _ e j)

namespace R

open Cert.ReferenceIdeal Cert.ReferenceIdeal.Gen

/-! ## The line and its run -/

/-- The reference's operations, in order, the two inner functions' at their calls. -/
abbrev ops : List (HloOp τ sig (Elt F)) :=
  [ unary main_arg0 main_v0 (Host.reverse [0] : (⟨S2048x4096, .f32⟩ : BufTy).Contents (Elt F) → (⟨S2048x4096, .f32⟩ : BufTy).Contents (Elt F)),
    TRef.nullary main_call0.c (constantI S_ 32 0#32),
    TRef.unary main_call0.c main_call0.v0 (broadcastInDim S4096 ![] bcast_S_S4096),
    TRef.binary (.of main_arg1) main_call0.v0 main_call0.v1 (cmpi .slt),
    TRef.nullary main_call0.c_0 (constantI S_ 32 4096#32),
    TRef.unary main_call0.c_0 main_call0.v2 (broadcastInDim S4096 ![] bcast_S_S4096),
    TRef.binary (.of main_arg1) main_call0.v2 main_call0.v3 addi,
    TRef.ternary main_call0.v1 main_call0.v3 (.of main_arg1) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_v0) main_call0.v5 main_call0.v13 (fun x i => Host.gather gather_S2048x4096_S4096x1_S2048x4096_0_1_n_n_1_1_20481 x i),
    TRef.unary main_call0.v12 main_call0.v14 (broadcastInDim S2048x4096 ![1] bcast_S4096_S2048x4096_1),
    TRef.nullary main_call0.cst (constant S_ .f32 0x7FC00000#32),
    TRef.unary main_call0.cst main_call0.v15 (broadcastInDim S2048x4096 ![] bcast_S_S2048x4096),
    TRef.ternary main_call0.v14 main_call0.v13 main_call0.v15 main_call0.v16 select ]

/-- `main` is that line. -/
theorem main_eq (c : Dev nD) : main (F := F) c = seq ops := by
  simp only [main, fn_take.body, fn_where.body, seq, bind_assoc, pure_bind]

/-- A column number as the reference reads it: with 4096 added where it is negative. -/
def wrapped (p : IVec S4096 32) : IVec S4096x1 32 :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 4096#32))) p)

/-- Whether a wrapped column number is in `[0, 4095]`. -/
def inside (w : IVec S4096x1 32) : IVec S4096x1 1 :=
  andi (cmpi .sge w (broadcastInDim S4096x1 ![] bcast_S_S4096x1 (constantI S_ 32 0#32)))
    (cmpi .sle w (broadcastInDim S4096x1 ![0, 1] bcast_S1x1_S4096x1_0_1 (broadcastInDim S1x1 ![1] bcast_S1_S1x1_1 (constantI S1 32 4095#32))))

/-- The reference's result as its operations compose. -/
def taken (X : FVec F S2048x4096 .f32) (p : IVec S4096 32) : FVec F S2048x4096 .f32 :=
  select (broadcastInDim S2048x4096 ![1] bcast_S4096_S2048x4096_1
      (Host.reduce IntOp.andi (inside (wrapped p)) (constantI S_ 1 1#1) reducesTo_S4096x1_S4096_d1 h_S_))
    (Host.gather gather_S2048x4096_S4096x1_S2048x4096_0_1_n_n_1_1_20481 (Host.reverse [0] X) (wrapped p))
    (broadcastInDim S2048x4096 ![] bcast_S_S2048x4096 (constant S_ .f32 0x7FC00000#32))

/-- The line leaves `taken` in the result. -/
theorem out_eq (V : Valuation τ sig (Elt F)) :
    after ops V (main_v1 : DevRef τ sig) = taken (V (main_arg0 : DevRef τ sig)) (V (main_arg1 : DevRef τ sig)) := by
  after_results_simp
  rfl

/-- The line leaves the first argument as it was. -/
theorem arg0_eq (V : Valuation τ sig (Elt F)) : after ops V (main_arg0 : DevRef τ sig) = V (main_arg0 : DevRef τ sig) := by
  simp only [after_cons, after_nil]
  rfl

/-- The line leaves the second argument as it was. -/
theorem arg1_eq (V : Valuation τ sig (Elt F)) : after ops V (main_arg1 : DevRef τ sig) = V (main_arg1 : DevRef τ sig) := by
  simp only [after_cons, after_nil]
  rfl

/-- The reference declares no scoped array. -/
theorem scopedRefs_eq : (Finset.univ.filter fun b : Ref sig .tc => b.isScoped) = ∅ := by decide
/-- The reference declares no scoped semaphore. -/
theorem scopedSems_eq : (Finset.univ.filter fun sm : SemLoc sig => sm.isScoped .tc) = ∅ := by decide

/-- Each operation touches arrays of the TensorCore only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- From any memory with zero counters every weakly fair execution of the reference ends, each array at what the line
    leaves there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value -/

variable {p : IVec S4096 32} (hp : ∀ j, (p j).toNat < 4096)

include hp in
/-- A column number in range is read as it is. -/
theorem wrapped_eq (k : S4096x1.Idx) : wrapped p k = p (fun | 0 => k 0) := by
  have hlt : ∀ j, ¬ IntOp.cmpi .slt (p j) 0#32 = 1#1 := fun j h => by
    have := (slt_iff_toNat (a := p j) (b := 0#32) (by have := hp j; omega) (by decide)).1 h
    simp at this
  have e : ∀ j, select (cmpi .slt p (broadcastInDim S4096 ![] bcast_S_S4096 (constantI S_ 32 0#32)))
      (addi p (broadcastInDim S4096 ![] bcast_S_S4096 (constantI S_ 32 4096#32))) p j = p j := fun j => if_neg (hlt j)
  unfold wrapped
  rw [funext e]
  show p _ = p _
  congr 1
  funext a
  match a with
  | 0 => rfl

include hp in
/-- Every column number passes the range test. -/
theorem inside_eq (k : S4096x1.Idx) : inside (wrapped p) k = 1#1 := by
  refine IntOp.andi_eq_one.2 ⟨?_, ?_⟩
  · show IntOp.cmpi .sge (wrapped p k) 0#32 = 1#1
    rw [wrapped_eq hp]
    exact (sge_iff_toNat (by have := hp (fun | 0 => k 0); omega) (by decide)).2 (by simp)
  · show IntOp.cmpi .sle (wrapped p k) 4095#32 = 1#1
    rw [wrapped_eq hp]
    exact (sle_iff_toNat (by have := hp (fun | 0 => k 0); omega) (by decide)).2 (Nat.le_of_lt_succ (hp _))

/-- The gather's dimension numbers, for short. -/
abbrev gd : GatherDims S2048x4096 S4096x1 S2048x4096 := gather_S2048x4096_S4096x1_S2048x4096_0_1_n_n_1_1_20481

/-- The gather takes row `y 0` of its operand at row `y 0` of its result. -/
theorem gd_row (w : IVec S4096x1 32) (y : S2048x4096.Idx) : (gd.operandIdx y w 0).val = (y 0).val := by
  show gd.start y w 0 + gd.batchCoord y 0 + gd.offCoord y 0 = _
  have hs : gd.start y w 0 = 0 := dif_neg (by decide)
  rw [hs, GatherDims.batchCoord_eq_zero _ _ _ (by decide), Nat.zero_add]
  exact dif_pos (by decide)

/-- Clamping a word below 4096 into `[0, 4095]` leaves it. -/
theorem clamped {v : BitVec 32} (hv : v.toNat < 4096) : min v.toInt.toNat 4095 = v.toNat := by
  rw [toInt_eq_toNat_of_lt (by omega), Int.toNat_natCast]; omega

/-- The gather takes, at column `y 1` of its result, the column the index array names there, where that is in range. -/
theorem gd_col (w : IVec S4096x1 32) (y : S2048x4096.Idx) (hw : ∀ k, (w k).toNat < 4096) :
    (gd.operandIdx y w 1).val = (w (ixP (y 1))).toNat := by
  show gd.start y w 1 + gd.batchCoord y 1 + gd.offCoord y 1 = _
  rw [GatherDims.batchCoord_eq_zero _ _ _ (by decide), GatherDims.offCoord_eq_zero _ _ _ (by decide), Nat.add_zero]
  have hk : gd.siIdx y ⟨gd.startIndexMap.idxOf 1, by decide⟩ = ixP (y 1) := by
    funext b
    match b with
    | 0 => rfl
    | 1 => exact Subsingleton.elim (α := Fin 1) _ _
  have hs : gd.start y w 1 = min (w (gd.siIdx y ⟨gd.startIndexMap.idxOf 1, by decide⟩)).toInt.toNat 4095 := dif_pos (by decide)
  rw [hs, hk]
  exact clamped (hw _)

/-- The reference's result is the rows of the source in reversed order, each taken at the columns `p` names. -/
theorem taken_eq (X : FVec F S2048x4096 .f32) : taken X p = rows X p hp := by
  funext y
  have hsel : broadcastInDim S2048x4096 ![1] bcast_S4096_S2048x4096_1
      (Host.reduce IntOp.andi (inside (wrapped p)) (constantI S_ 1 1#1) reducesTo_S4096x1_S4096_d1 h_S_) y = 1#1 :=
    Host.reduce_andi_one _ _ _ _ _ rfl (inside_eq hp)
  refine (if_pos hsel).trans ?_
  unfold Host.gather Host.reverse rows
  congr 1
  funext a
  match a with
  | 0 =>
    apply Fin.ext
    show 2048 - ((gd.operandIdx y (wrapped p) 0).val + 1) = 2047 - (y 0).val
    rw [gd_row]; omega
  | 1 =>
    apply Fin.ext
    show (gd.operandIdx y (wrapped p) 1).val = (p (col (y 1))).toNat
    rw [gd_col _ _ fun k => by rw [wrapped_eq hp]; exact hp _, wrapped_eq hp]
    congr 2

end R

end Cert.Proof

end
-- ==== Proof.lean ====
/-
  The certificate of a SparseCore kernel that reverses the rows of a 2048 × 4096 array and takes its columns in the order
  a table of 4096 words names: out[i, j] = source[2047 − i, perm[j]].

  The kernel launches one body on every vector subcore. Each owns 64 rows of the result, in sixteen groups of four: a
  group's source rows come in by one copy, their columns are picked by indexed loads into an output buffer, upside down, and
  the buffer leaves by one copy. The copies in run up to four groups ahead, the copies out up to three behind.

  - Proof/Base.lean names the regions and the values of one group; Proof/Trip.lean proves the pass over one group's
    columns; Proof/Task.lean puts the body in the form of a sequence of group steps; Proof/Tile.lean proves the body of
    one subcore, copies and all.
  - Proof/Launch.lean cuts the arrays into the subcores' rows; Proof/Run.lean puts the subcores' proofs together into the
    run of the whole kernel, for any float values.
  - Proof/Ref.lean runs the reference and reads its result as the same array.

  Here the five claims are read off those runs.
-/
module

public import proofs.«01_k».proof.Defs
public import proofs.«01_k».proof.Proof.Gen.Kernel
public import proofs.«01_k».proof.Proof.Gen.Kernel.Skeleton
public import proofs.«01_k».proof.Proof.Run
public import proofs.«01_k».proof.Proof.Ref

@[expose] public section

noncomputable section

namespace Cert.Proof

open Idealize.ShloMosaic Idealize.SL.Sem

/-- The kernel on bit patterns ends with its arguments unchanged and every semaphore at zero. Its program is the ideal
    one's, operation by operation, so the run is the same theorem's at bit patterns. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) (m := m) ρ fun d => in_range_of_pre (hpre d))

/-- The ideal kernel ends with its arguments unchanged and every semaphore at zero. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) (m := m) ρ fun d => in_range_of_pre (hpre d))

/-- The reference ends with its arguments unchanged and every semaphore at zero, whatever the column numbers are. -/
theorem frame_ref : Cert.quiescent_ReferenceIdeal := fun m ρ _ =>
  (θ_run Cert.ReferenceIdeal.defs _ _).mono
    (fun r h => ⟨fun c => ⟨(h c Cert.ReferenceIdeal.main_arg0).trans (R.arg0_eq _), (h c Cert.ReferenceIdeal.main_arg1).trans (R.arg1_eq _)⟩,
      sem_eq_zero_of_no_sems (by decide) r.2⟩)
    (R.run_main (F := Ideal) m ρ)

/-- The same under the precondition that the value claim takes. -/
theorem frame_ref_pre : Cert.quiescent_ReferenceIdeal_pre_perm_in_range := fun m ρ _ => frame_ref m ρ trivial

/-- From equal arguments, the column numbers in range, the ideal kernel and the ideal reference end with equal results. -/
theorem value : Cert.algebraic_KernelIdeal_ReferenceIdeal := by
  intro m ρ m' ρ' hpre hagree
  have hm : PermOK m := fun d => in_range_of_pre (hpre d)
  refine ⟨fun c => result hm c, ?_, ?_⟩
  · exact (θ_run Cert.KernelIdeal.defs _ _).mono (fun _ h c => ⟨(h.1 c).2.2, (h.1 c).1, (h.1 c).2.1⟩) (run_main (F := Ideal) ρ hm)
  · refine (θ_run Cert.ReferenceIdeal.defs _ _).mono
      (fun _ h c => ⟨((h c Cert.ReferenceIdeal.main_v1).trans (R.out_eq _)).trans ?_,
        (h c Cert.ReferenceIdeal.main_arg0).trans (R.arg0_eq _), (h c Cert.ReferenceIdeal.main_arg1).trans (R.arg1_eq _)⟩)
      (R.run_main (F := Ideal) m' ρ')
    show R.taken (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [(hagree c).1, (hagree c).2]
    exact R.taken_eq (F := Ideal) (hm c) _

/-- The certificate: the frames, the idealization, and the equal results. -/
theorem claim : Cert.Claim :=
  ⟨Cert.Kernel.Gen.facts, Cert.KernelIdeal.Gen.facts, Cert.ReferenceIdeal.Gen.facts, Cert.Pre_perm_in_range.Gen.facts,
    frame_kernel, frame_ideal, frame_ref, frame_ref_pre, trivial, value⟩

end Cert.Proof

end
